-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32x2048x768 : Shape := ⟨3, ![32, 2048, 768]⟩
abbrev S32x2048 : Shape := ⟨2, ![32, 2048]⟩
abbrev S768x128 : Shape := ⟨2, ![768, 128]⟩
abbrev S128 : Shape := ⟨1, ![128]⟩
abbrev S768x768 : Shape := ⟨2, ![768, 768]⟩
abbrev S768 : Shape := ⟨1, ![768]⟩
abbrev S32x2046 : Shape := ⟨2, ![32, 2046]⟩
abbrev S_ : Shape := ⟨0, ![]⟩
abbrev S32x2045 : Shape := ⟨2, ![32, 2045]⟩

class Facts : Prop where
  slices_S32x2048_S32x2046_0_1 : S32x2048.Slices ![0, 1] S32x2046
  bcast_S_S32x2046 : S_.BroadcastsInDim S32x2046 (![] : Fin 0 → Fin S32x2046.rank)
  reducesTo_S32x2046_S_d0_1 : S32x2046.ReducesTo [0, 1] S_
  h_S_ : 0 < S_.numel
  slices_S32x2046_S32x2045_0_1 : S32x2046.Slices ![0, 1] S32x2045
  slices_S32x2046_S32x2045_0_0 : S32x2046.Slices ![0, 0] S32x2045
  reducesTo_S32x2045_S_d0_1 : S32x2045.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32x2048x768 .f32) (main_arg1 : IVec S32x2048 32) (main_arg2 : FVec F S768x128 .f32) (main_arg3 : FVec F S128 .f32) (main_arg4 : FVec F S768x768 .f32) (main_arg5 : FVec F S768 .f32) (main_arg6 : FVec F S128 .f32) (main_arg7 : FVec F S128 .f32) (main_arg8 : FVec F S768 .f32) (main_arg9 : FVec F S768 .f32) : IVec S_ 1 :=
  let main_v0 : IVec S32x2046 32 := (extractStridedSlice S32x2046 ![0, 1] · slices_S32x2048_S32x2046_0_1) main_arg1
  let main_c : IVec S_ 32 := constantI S_ 32 0#32
  let main_v1 : IVec S32x2046 32 := broadcastInDim S32x2046 ![] bcast_S_S32x2046 main_c
  let main_v2 : IVec S32x2046 1 := cmpi .eq main_v0 main_v1
  let main_c_0 : IVec S_ 32 := constantI S_ 32 1#32
  let main_v3 : IVec S32x2046 32 := broadcastInDim S32x2046 ![] bcast_S_S32x2046 main_c_0
  let main_v4 : IVec S32x2046 1 := cmpi .eq main_v0 main_v3
  let main_v5 : IVec S32x2046 1 := ori main_v2 main_v4
  let main_c_1 : IVec S_ 1 := constantI S_ 1 1#1
  let main_v6 : IVec S_ 1 := (fun x v => Host.reduce IntOp.andi x v reducesTo_S32x2046_S_d0_1 h_S_) main_v5 main_c_1
  let main_v7 : IVec S32x2045 32 := (extractStridedSlice S32x2045 ![0, 1] · slices_S32x2046_S32x2045_0_1) main_v0
  let main_v8 : IVec S32x2045 32 := (extractStridedSlice S32x2045 ![0, 0] · slices_S32x2046_S32x2045_0_0) main_v0
  let main_v9 : IVec S32x2045 1 := cmpi .sle main_v7 main_v8
  let main_c_2 : IVec S_ 1 := constantI S_ 1 1#1
  let main_v10 : IVec S_ 1 := (fun x v => Host.reduce IntOp.andi x v reducesTo_S32x2045_S_d0_1 h_S_) main_v9 main_c_2
  let main_v11 : IVec S_ 1 := andi main_v6 main_v10
  let main_v12 : FVec F S128 .f32 := Host.absf main_arg6
  let main_cst : FVec F S_ .f32 := constant S_ .f32 0x7F800000#32
  let main_v13 : FVec F S128 .f32 := broadcastInDim S128 ![] bcast_S_S128 main_cst
  let main_v14 : IVec S128 1 := cmpf .olt main_v12 main_v13
  let main_c_3 : IVec S_ 1 := constantI S_ 1 1#1
  let main_v15 : IVec S_ 1 := (fun x v => Host.reduce IntOp.andi x v reducesTo_S128_S_d0 h_S_) main_v14 main_c_3
  let main_v16 : IVec S_ 1 := andi main_v11 main_v15
  main_v16
-- ==== Kernel.lean ====
abbrev S32x2048x768 : Shape := ⟨3, ![32, 2048, 768]⟩
abbrev S32x2048 : Shape := ⟨2, ![32, 2048]⟩
abbrev S768x128 : Shape := ⟨2, ![768, 128]⟩
abbrev S128 : Shape := ⟨1, ![128]⟩
abbrev S768x768 : Shape := ⟨2, ![768, 768]⟩
abbrev S768 : Shape := ⟨1, ![768]⟩
abbrev S32x1x2048 : Shape := ⟨3, ![32, 1, 2048]⟩
abbrev S1x128 : Shape := ⟨2, ![1, 128]⟩
abbrev S1x768 : Shape := ⟨2, ![1, 768]⟩
abbrev S32x1x768 : Shape := ⟨3, ![32, 1, 768]⟩
abbrev S32x2046x128 : Shape := ⟨3, ![32, 2046, 128]⟩
abbrev S1x256x768 : Shape := ⟨3, ![1, 256, 768]⟩
abbrev S1x1x2048 : Shape := ⟨3, ![1, 1, 2048]⟩
abbrev S1x1x768 : Shape := ⟨3, ![1, 1, 768]⟩
abbrev S1x2046x128 : Shape := ⟨3, ![1, 2046, 128]⟩
abbrev S256x768 : Shape := ⟨2, ![256, 768]⟩
abbrev S1 : Shape := ⟨1, ![1]⟩
abbrev S1x1 : Shape := ⟨2, ![1, 1]⟩
abbrev S256x128 : Shape := ⟨2, ![256, 128]⟩
abbrev S256 : Shape := ⟨1, ![256]⟩
abbrev S256x1 : Shape := ⟨2, ![256, 1]⟩
abbrev S2048x128 : Shape := ⟨2, ![2048, 128]⟩
abbrev S1x2048 : Shape := ⟨2, ![1, 2048]⟩
abbrev S1x1x1 : Shape := ⟨3, ![1, 1, 1]⟩
abbrev S2048x1 : Shape := ⟨2, ![2048, 1]⟩
abbrev S2047x128 : Shape := ⟨2, ![2047, 128]⟩
abbrev S8x128 : Shape := ⟨2, ![8, 128]⟩
abbrev S2056x128 : Shape := ⟨2, ![2056, 128]⟩
abbrev S2055x128 : Shape := ⟨2, ![2055, 128]⟩
abbrev S2054x128 : Shape := ⟨2, ![2054, 128]⟩
abbrev S2x128 : Shape := ⟨2, ![2, 128]⟩
abbrev S2052x128 : Shape := ⟨2, ![2052, 128]⟩
abbrev S4x128 : Shape := ⟨2, ![4, 128]⟩
abbrev S5x128 : Shape := ⟨2, ![5, 128]⟩
abbrev S2051x128 : Shape := ⟨2, ![2051, 128]⟩
abbrev S2053x128 : Shape := ⟨2, ![2053, 128]⟩
abbrev S3x128 : Shape := ⟨2, ![3, 128]⟩
abbrev S2048 : Shape := ⟨1, ![2048]⟩
abbrev S2046x128 : Shape := ⟨2, ![2046, 128]⟩

abbrev nBuf : Space → Nat
  | .hbm => 19
  | .vmem => 30
  | .smem => 0
  | _ => 0

abbrev bufTy : (tb : Table) → Fin (tcTables nBuf tb) → BufTy
  | .hbm, ⟨0, _⟩ => ⟨S32x2048x768, .f32⟩
  | .hbm, ⟨1, _⟩ => ⟨S32x2048, .i32⟩
  | .hbm, ⟨2, _⟩ => ⟨S768x128, .f32⟩
  | .hbm, ⟨3, _⟩ => ⟨S128, .f32⟩
  | .hbm, ⟨4, _⟩ => ⟨S768x768, .f32⟩
  | .hbm, ⟨5, _⟩ => ⟨S768, .f32⟩
  | .hbm, ⟨6, _⟩ => ⟨S128, .f32⟩
  | .hbm, ⟨7, _⟩ => ⟨S128, .f32⟩
  | .hbm, ⟨8, _⟩ => ⟨S768, .f32⟩
  | .hbm, ⟨9, _⟩ => ⟨S768, .f32⟩
  | .hbm, ⟨10, _⟩ => ⟨S32x1x2048, .i32⟩
  | .hbm, ⟨11, _⟩ => ⟨S1x128, .f32⟩
  | .hbm, ⟨12, _⟩ => ⟨S1x768, .f32⟩
  | .hbm, ⟨13, _⟩ => ⟨S1x128, .f32⟩
  | .hbm, ⟨14, _⟩ => ⟨S1x128, .f32⟩
  | .hbm, ⟨15, _⟩ => ⟨S1x768, .f32⟩
  | .hbm, ⟨16, _⟩ => ⟨S1x768, .f32⟩
  | .hbm, ⟨17, _⟩ => ⟨S32x1x768, .f32⟩
  | .hbm, ⟨18, _⟩ => ⟨S32x2046x128, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x1x2048, .i32⟩
  | .local _ .vmem, ⟨17, _⟩ => ⟨S1x1x2048, .i32⟩
  | .local _ .vmem, ⟨18, _⟩ => ⟨S768x128, .f32⟩
  | .local _ .vmem, ⟨19, _⟩ => ⟨S1x128, .f32⟩
  | .local _ .vmem, ⟨20, _⟩ => ⟨S768x768, .f32⟩
  | .local _ .vmem, ⟨21, _⟩ => ⟨S1x768, .f32⟩
  | .local _ .vmem, ⟨22, _⟩ => ⟨S1x128, .f32⟩
  | .local _ .vmem, ⟨23, _⟩ => ⟨S1x128, .f32⟩
  | .local _ .vmem, ⟨24, _⟩ => ⟨S1x768, .f32⟩
  | .local _ .vmem, ⟨25, _⟩ => ⟨S1x768, .f32⟩
  | .local _ .vmem, ⟨26, _⟩ => ⟨S1x1x768, .f32⟩
  | .local _ .vmem, ⟨27, _⟩ => ⟨S1x1x768, .f32⟩
  | .local _ .vmem, ⟨28, _⟩ => ⟨S1x2046x128, .f32⟩
  | .local _ .vmem, ⟨29, _⟩ => ⟨S1x2046x128, .f32⟩
  | _, _ => ⟨S32x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![arg0.toNat, c4_i32.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![arg0.toNat, c5_i32.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![arg0.toNat, c6_i32.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![arg0.toNat, c7_i32.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S768x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2046x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S32x2048x768 : Shape := ⟨3, ![32, 2048, 768]⟩
abbrev S32x2048 : Shape := ⟨2, ![32, 2048]⟩
abbrev S768x128 : Shape := ⟨2, ![768, 128]⟩
abbrev S128 : Shape := ⟨1, ![128]⟩
abbrev S768x768 : Shape := ⟨2, ![768, 768]⟩
abbrev S768 : Shape := ⟨1, ![768]⟩
abbrev S32x1x768 : Shape := ⟨3, ![32, 1, 768]⟩
abbrev S32x768 : Shape := ⟨2, ![32, 768]⟩
abbrev S1x768 : Shape := ⟨2, ![1, 768]⟩
abbrev S_ : Shape := ⟨0, ![]⟩
abbrev S32 : Shape := ⟨1, ![32]⟩
abbrev S32x1 : Shape := ⟨2, ![32, 1]⟩
abbrev S32x2048x128 : Shape := ⟨3, ![32, 2048, 128]⟩
abbrev S1x1x128 : Shape := ⟨3, ![1, 1, 128]⟩
abbrev S32x2048x1 : Shape := ⟨3, ![32, 2048, 1]⟩
abbrev S32x2046x128 : Shape := ⟨3, ![32, 2046, 128]⟩
abbrev S32x2046 : Shape := ⟨2, ![32, 2046]⟩
abbrev S32x2046x1 : Shape := ⟨3, ![32, 2046, 1]⟩
abbrev S32x1x128 : Shape := ⟨3, ![32, 1, 128]⟩
abbrev S32x2047x128 : Shape := ⟨3, ![32, 2047, 128]⟩
abbrev S2046 : Shape := ⟨1, ![2046]⟩
abbrev S1x2046 : Shape := ⟨2, ![1, 2046]⟩
abbrev S2046x1 : Shape := ⟨2, ![2046, 1]⟩
abbrev S1 : Shape := ⟨1, ![1]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S32x2048x768, .f32⟩
  | 1 => ⟨S32x2048, .i32⟩
  | 2 => ⟨S768x128, .f32⟩
  | 3 => ⟨S128, .f32⟩
  | 4 => ⟨S768x768, .f32⟩
  | 5 => ⟨S768, .f32⟩
  | 6 => ⟨S128, .f32⟩
  | 7 => ⟨S128, .f32⟩
  | 8 => ⟨S768, .f32⟩
  | 9 => ⟨S768, .f32⟩
  | 10 => ⟨S32x1x768, .f32⟩
  | 11 => ⟨S32x768, .f32⟩
  | 12 => ⟨S32x768, .f32⟩
  | 13 => ⟨S1x768, .f32⟩
  | 14 => ⟨S32x768, .f32⟩
  | 15 => ⟨S32x768, .f32⟩
  | 16 => ⟨S_, .f32⟩
  | 17 => ⟨S32, .f32⟩
  | 18 => ⟨S32x1, .f32⟩
  | 19 => ⟨S_, .f32⟩
  | 20 => ⟨S32x1, .f32⟩
  | 21 => ⟨S32x1, .f32⟩
  | 22 => ⟨S32x768, .f32⟩
  | 23 => ⟨S32x768, .f32⟩
  | 24 => ⟨S32x768, .f32⟩
  | 25 => ⟨S_, .f32⟩
  | 26 => ⟨S32, .f32⟩
  | 27 => ⟨S32x1, .f32⟩
  | 28 => ⟨S_, .f32⟩
  | 29 => ⟨S32x1, .f32⟩
  | 30 => ⟨S32x1, .f32⟩
  | 31 => ⟨S32x768, .f32⟩
  | 32 => ⟨S32x768, .f32⟩
  | 33 => ⟨S_, .f32⟩
  | 34 => ⟨S32x1, .f32⟩
  | 35 => ⟨S32x1, .f32⟩
  | 36 => ⟨S32x1, .f32⟩
  | 37 => ⟨S32x768, .f32⟩
  | 38 => ⟨S32x768, .f32⟩
  | 39 => ⟨S1x768, .f32⟩
  | 40 => ⟨S32x768, .f32⟩
  | 41 => ⟨S32x768, .f32⟩
  | 42 => ⟨S1x768, .f32⟩
  | 43 => ⟨S32x768, .f32⟩
  | 44 => ⟨S32x768, .f32⟩
  | 45 => ⟨S32x2048x128, .f32⟩
  | 46 => ⟨S1x1x128, .f32⟩
  | 47 => ⟨S32x2048x128, .f32⟩
  | 48 => ⟨S32x2048x128, .f32⟩
  | 49 => ⟨S_, .f32⟩
  | 50 => ⟨S32x2048, .f32⟩
  | 51 => ⟨S32x2048x1, .f32⟩
  | 52 => ⟨S_, .f32⟩
  | 53 => ⟨S32x2048x1, .f32⟩
  | 54 => ⟨S32x2048x1, .f32⟩
  | 55 => ⟨S32x2048x128, .f32⟩
  | 56 => ⟨S32x2048x128, .f32⟩
  | 57 => ⟨S32x2048x128, .f32⟩
  | 58 => ⟨S_, .f32⟩
  | 59 => ⟨S32x2048, .f32⟩
  | 60 => ⟨S32x2048x1, .f32⟩
  | 61 => ⟨S_, .f32⟩
  | 62 => ⟨S32x2048x1, .f32⟩
  | 63 => ⟨S32x2048x1, .f32⟩
  | 64 => ⟨S32x2048x128, .f32⟩
  | 65 => ⟨S32x2048x128, .f32⟩
  | 66 => ⟨S_, .f32⟩
  | 67 => ⟨S32x2048x1, .f32⟩
  | 68 => ⟨S32x2048x1, .f32⟩
  | 69 => ⟨S32x2048x1, .f32⟩
  | 70 => ⟨S32x2048x128, .f32⟩
  | 71 => ⟨S32x2048x128, .f32⟩
  | 72 => ⟨S1x1x128, .f32⟩
  | 73 => ⟨S32x2048x128, .f32⟩
  | 74 => ⟨S32x2048x128, .f32⟩
  | 75 => ⟨S1x1x128, .f32⟩
  | 76 => ⟨S32x2048x128, .f32⟩
  | 77 => ⟨S32x2048x128, .f32⟩
  | 78 => ⟨S_, .f32⟩
  | 79 => ⟨S32x2048x128, .f32⟩
  | 80 => ⟨S32x2048x128, .f32⟩
  | 81 => ⟨S32x2046x128, .f32⟩
  | 82 => ⟨S32x2046, .i32⟩
  | 83 => ⟨S_, .i32⟩
  | 84 => ⟨S32, .i32⟩
  | 85 => ⟨S32x2046x1, .i32⟩
  | 86 => ⟨S32x2046x1, .f32⟩
  | 87 => ⟨S32x2046x128, .f32⟩
  | 88 => ⟨S32x2046x128, .f32⟩
  | 89 => ⟨S_, .f32⟩
  | 90 => ⟨S32x1x128, .f32⟩
  | 91 => ⟨S_, .f32⟩
  | 92 => ⟨S_, .f32⟩
  | 93 => ⟨S32x2046x128, .f32⟩
  | 94 => ⟨S32x2047x128, .f32⟩
  | 95 => ⟨S2046, .i32⟩
  | 96 => ⟨S_, .i32⟩
  | 97 => ⟨S2046, .i32⟩
  | 98 => ⟨S2046, .i32⟩
  | 99 => ⟨S_, .i32⟩
  | 100 => ⟨S2046, .i32⟩
  | 101 => ⟨S2046, .i32⟩
  | 102 => ⟨S_, .i32⟩
  | 103 => ⟨S2046, .i32⟩
  | 104 => ⟨S2046, .i32⟩
  | 105 => ⟨S32x1, .i32⟩
  | 106 => ⟨S1x2046, .i32⟩
  | 107 => ⟨S32x2046, .i32⟩
  | 108 => ⟨S32x2046, .i32⟩
  | 109 => ⟨S32x2046, .i32⟩
  | 110 => ⟨S_, .i32⟩
  | 111 => ⟨S2046, .i32⟩
  | 112 => ⟨S2046, .i1⟩
  | 113 => ⟨S_, .i32⟩
  | 114 => ⟨S2046, .i32⟩
  | 115 => ⟨S2046, .i32⟩
  | 116 => ⟨S2046, .i32⟩
  | 117 => ⟨S2046x1, .i32⟩
  | 118 => ⟨S1, .i32⟩
  | 119 => ⟨S_, .i32⟩
  | 120 => ⟨S2046x1, .i32⟩
  | 121 => ⟨S2046x1, .i1⟩
  | 122 => ⟨S1x1, .i32⟩
  | 123 => ⟨S2046x1, .i32⟩
  | 124 => ⟨S2046x1, .i1⟩
  | 125 => ⟨S2046x1, .i1⟩
  | 126 => ⟨S_, .i1⟩
  | 127 => ⟨S2046, .i1⟩
  | _ => ⟨S32x2048x768, .f32⟩

abbrev hbmTy0_1 (i : Nat) : BufTy := match i % 128 with
  | 0 => ⟨S32x2046x128, .f32⟩
  | 1 => ⟨S32x2046x128, .i1⟩
  | 2 => ⟨S_, .f32⟩
  | 3 => ⟨S32x2046x128, .f32⟩
  | 4 => ⟨S32x2046x128, .f32⟩
  | 5 => ⟨S_, .i32⟩
  | 6 => ⟨S32x2046, .i32⟩
  | 7 => ⟨S32x2046, .i1⟩
  | 8 => ⟨S_, .i32⟩
  | 9 => ⟨S32x2046, .i32⟩
  | 10 => ⟨S32x2046, .i32⟩
  | 11 => ⟨S32x2046, .i32⟩
  | 12 => ⟨S32x2046x1, .i32⟩
  | 13 => ⟨S32x2046x128, .f32⟩
  | 14 => ⟨S1x2046, .i32⟩
  | 15 => ⟨S32x2046, .i32⟩
  | 16 => ⟨S32x2046, .i32⟩
  | 17 => ⟨S_, .i32⟩
  | 18 => ⟨S32x2046, .i32⟩
  | 19 => ⟨S32x2046, .i32⟩
  | 20 => ⟨S32x2046, .f32⟩
  | 21 => ⟨S32x2046x128, .f32⟩
  | 22 => ⟨S32x2046x1, .f32⟩
  | 23 => ⟨S32x2046x128, .f32⟩
  | 24 => ⟨S32x2046x128, .f32⟩
  | 25 => ⟨S1x2046, .i32⟩
  | 26 => ⟨S32x1, .i32⟩
  | 27 => ⟨S32x2046, .i32⟩
  | 28 => ⟨S32x2046, .i32⟩
  | 29 => ⟨S32x2046, .i1⟩
  | 30 => ⟨S32x2046x1, .i1⟩
  | 31 => ⟨S_, .f32⟩
  | 32 => ⟨S_, .f32⟩
  | 33 => ⟨S32x2046x128, .i1⟩
  | 34 => ⟨S32x2046x128, .f32⟩
  | 35 => ⟨S32x2046x128, .f32⟩
  | 36 => ⟨S32x2046x128, .f32⟩
  | 37 => ⟨S_, .f32⟩
  | 38 => ⟨S32x2046, .f32⟩
  | 39 => ⟨S32x2046x1, .f32⟩
  | 40 => ⟨S32x2046x1, .f32⟩
  | 41 => ⟨S_, .f32⟩
  | 42 => ⟨S32x2046x1, .f32⟩
  | 43 => ⟨S32x2046x1, .i1⟩
  | 44 => ⟨S_, .f32⟩
  | 45 => ⟨S32x2046x1, .f32⟩
  | 46 => ⟨S32x2046x1, .i1⟩
  | 47 => ⟨S_, .f32⟩
  | 48 => ⟨S_, .f32⟩
  | 49 => ⟨S32x2046x1, .f32⟩
  | 50 => ⟨S32x2046x1, .f32⟩
  | 51 => ⟨S32x2046x128, .f32⟩
  | 52 => ⟨S32x2046x128, .f32⟩
  | 53 => ⟨S_, .f32⟩
  | 54 => ⟨S_, .f32⟩
  | 55 => ⟨S32x2046x128, .i1⟩
  | 56 => ⟨S32x2046x128, .f32⟩
  | 57 => ⟨S32x2046x128, .f32⟩
  | 58 => ⟨S32x1x768, .f32⟩
  | _ => ⟨S32x2048x768, .f32⟩

abbrev hbmTy (i : Nat) : BufTy := match i / 128 with
  | 0 => hbmTy0_0 i
  | 1 => hbmTy0_1 i
  | _ => ⟨S32x2048x768, .f32⟩

abbrev bufTy : (tb : Table) → Fin (tcTables nBuf tb) → BufTy
  | .hbm, ⟨i, _⟩ => hbmTy i
  | _, _ => ⟨S32x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_call1_call0_cst : Ref sig .tc := ⟨.hbm, 91, rfl⟩
abbrev main_call1_call0_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_10 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v81 : Ref sig .tc := ⟨.hbm, 132, rfl⟩
abbrev main_c_13 : Ref sig .tc := ⟨.hbm, 133, rfl⟩
abbrev main_v82 : Ref sig .tc := ⟨.hbm, 134, rfl⟩
abbrev main_v83 : Ref sig .tc := ⟨.hbm, 135, rfl⟩
abbrev main_c_14 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_c_15 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_16 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v105 : Ref sig .tc := ⟨.hbm, 163, rfl⟩
abbrev main_call4_v0 : Ref sig .tc := ⟨.hbm, 164, rfl⟩
abbrev main_call4_cst : Ref sig .tc := ⟨.hbm, 165, rfl⟩
abbrev main_call4_v1 : Ref sig .tc := ⟨.hbm, 166, rfl⟩
abbrev main_call4_v2 : Ref sig .tc := ⟨.hbm, 167, rfl⟩
abbrev main_v106 : Ref sig .tc := ⟨.hbm, 168, rfl⟩
abbrev main_cst_17 : Ref sig .tc := ⟨.hbm, 169, rfl⟩
abbrev main_v107 : Ref sig .tc := ⟨.hbm, 170, rfl⟩
abbrev main_v108 : Ref sig .tc := ⟨.hbm, 171, rfl⟩
abbrev main_cst_18 : Ref sig .tc := ⟨.hbm, 172, rfl⟩
abbrev main_v109 : Ref sig .tc := ⟨.hbm, 173, rfl⟩
abbrev main_v110 : Ref sig .tc := ⟨.hbm, 174, rfl⟩
abbrev main_cst_19 : Ref sig .tc := ⟨.hbm, 175, rfl⟩
abbrev main_call5_v0 : Ref sig .tc := ⟨.hbm, 176, rfl⟩
abbrev main_call5_v1 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_20 : Ref sig .tc := ⟨.hbm, 181, rfl⟩
abbrev main_call6_v0 : Ref sig .tc := ⟨.hbm, 182, rfl⟩
abbrev main_call6_v1 : Ref sig .tc := ⟨.hbm, 183, rfl⟩
abbrev main_call6_v2 : Ref sig .tc := ⟨.hbm, 184, rfl⟩
abbrev main_v114 : Ref sig .tc := ⟨.hbm, 185, rfl⟩
abbrev main_v115 : Ref sig .tc := ⟨.hbm, 186, rfl⟩

abbrev nD : Nat := 1
abbrev τ : Topo := Topo.v7x

variable {F : FTy → Type} [FloatOps F]
-- ==== Proof.RowSpec.lean ====
/-
  The mathematics of one row, on the extended reals, away from any program: an affine map of a row of features, the layer
  norm of a row, and the rectifier after it.
-/
module

public import Idealize.ShloMosaic.PureOps.Ideal
public import Idealize.ShloMosaic.PureOps.Ideal.Laws

@[expose] public section

noncomputable section

open Idealize.ShloMosaic

namespace Cert.RowSpec

/-- The small constant under the root of both layer norms, `1e-5` as a binary32 word. -/
def eps : EReal := Ideal.ofBits .f32 0x3727C5AC#32

/-- A row of features times a matrix, plus a bias row. -/
def affine {K N : Nat} (h : Fin K → EReal) (w : Fin K → Fin N → EReal) (b : Fin N → EReal) : Fin N → EReal :=
  fun d => ∑ k, h k * w k d + b d

/-- The mean of a row, as its sum divided by the constant `c`. -/
def mean {N : Nat} (c : EReal) (x : Fin N → EReal) : EReal := Ideal.div (∑ d, x d) c

/-- The mean of the squared deviations of a row. -/
def var {N : Nat} (c : EReal) (x : Fin N → EReal) : EReal :=
  Ideal.div (∑ d, (x d - mean c x) * (x d - mean c x)) c

/-- The layer norm of a row, with gain `g` and offset `b`, its scale taken as a reciprocal square root. -/
def lnorm {N : Nat} (c : EReal) (x g b : Fin N → EReal) : Fin N → EReal :=
  fun d => (x d - mean c x) * Ideal.rsqrt (var c x + eps) * g d + b d

/-- A token's row: the affine map of its features, normalized, then cut off below at zero. -/
def token (h : Fin 768 → EReal) (w : Fin 768 → Fin 128 → EReal) (b g be : Fin 128 → EReal) : Fin 128 → EReal :=
  fun d => max (lnorm (Ideal.ofBits .f32 0x43000000#32) (affine h w b) g be d) 0

/-- The row of the first token: the affine map of its features, normalized. -/
def cls (h : Fin 768 → EReal) (w : Fin 768 → Fin 768 → EReal) (b g be : Fin 768 → EReal) : Fin 768 → EReal :=
  lnorm (Ideal.ofBits .f32 0x44400000#32) (affine h w b) g be

/-- An extended real that is a real number. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The layer norm's constant is a positive real. -/
theorem eps_pos : ∃ r : ℝ, 0 < r ∧ eps = (r : EReal) := by
  refine ⟨_, ?_, by simp [eps, Ideal.ofBits, Ideal.ieee]; rfl⟩
  positivity

/-- The width 128 is a positive real. -/
theorem c128_pos : ∃ r : ℝ, 0 < r ∧ Ideal.ofBits .f32 0x43000000#32 = (r : EReal) := by
  refine ⟨_, ?_, by simp [Ideal.ofBits, Ideal.ieee]; rfl⟩
  positivity

/-- The width 768 is a positive real. -/
theorem c768_pos : ∃ r : ℝ, 0 < r ∧ Ideal.ofBits .f32 0x44400000#32 = (r : EReal) := by
  refine ⟨_, ?_, by simp [Ideal.ofBits, Ideal.ieee]; rfl⟩
  positivity

/-- A square is at least zero, infinities included. -/
theorem mul_self_nonneg (x : EReal) : 0 ≤ x * x := by
  induction x with
  | bot => simp
  | top => simp
  | coe r => exact_mod_cast _root_.mul_self_nonneg r

/-- Division by a positive real multiplies by its inverse. -/
theorem div_pos_real {c : ℝ} (hc : 0 < c) (x : EReal) : Ideal.div x (c : EReal) = x * ((c⁻¹ : ℝ) : EReal) := by
  rw [Ideal.div_coe hc.ne', one_div]

/-- The variance of a row, over a positive real divisor, is at least zero. -/
theorem var_nonneg {N : Nat} {c : ℝ} (hc : 0 < c) (x : Fin N → EReal) : 0 ≤ var (c : EReal) x := by
  unfold var
  rw [div_pos_real hc]
  exact mul_nonneg (Finset.sum_nonneg fun d _ => mul_self_nonneg _) (by exact_mod_cast (inv_pos.2 hc).le)

/-- What stands under the root is positive. -/
theorem var_eps_pos {N : Nat} {c : ℝ} (hc : 0 < c) (x : Fin N → EReal) : 0 < var (c : EReal) x + eps := by
  obtain ⟨e, he, h⟩ := eps_pos
  rw [h]
  calc (0 : EReal) < (e : EReal) := by exact_mod_cast he
    _ = 0 + (e : EReal) := (zero_add _).symm
    _ ≤ _ := add_le_add_left (var_nonneg hc x) _

/-- Dividing by a root is multiplying by the reciprocal root, where the radicand is positive (infinity included). -/
theorem div_sqrt (x : EReal) {s : EReal} (hs : 0 < s) : Ideal.div x (Ideal.sqrt s) = x * Ideal.rsqrt s := by
  induction s with
  | bot => simp at hs
  | top => simp [Ideal.div]
  | coe r =>
    have hr : 0 < r := by exact_mod_cast hs
    have hq : 0 < Real.sqrt r := Real.sqrt_pos.2 hr
    rw [Ideal.sqrt_coe, Ideal.rsqrt_coe, if_neg hr.not_gt, if_neg hr.not_gt, if_neg hr.ne', div_pos_real hq]

/-- The reciprocal root of a positive extended real is real. -/
theorem rsqrt_real {s : EReal} (hs : 0 < s) : IsReal (Ideal.rsqrt s) := by
  induction s with
  | bot => simp at hs
  | top => exact ⟨0, by simp⟩
  | coe r =>
    have hr : 0 < r := by exact_mod_cast hs
    exact ⟨(Real.sqrt r)⁻¹, by rw [Ideal.rsqrt_coe, if_neg hr.not_gt, if_neg hr.ne']⟩

/-- A sum of terms that are at least zero, one of them infinite, is infinite. -/
theorem sum_eq_top {N : Nat} {f : Fin N → EReal} (hf : ∀ d, 0 ≤ f d) (d : Fin N) (hd : f d = ⊤) : ∑ d, f d = ⊤ :=
  top_le_iff.1 (hd ▸ Finset.single_le_sum (fun d _ => hf d) (Finset.mem_univ d))

/-- The square of an extended real that is not real is infinite. -/
theorem mul_self_top {x : EReal} (hx : ¬ IsReal x) : x * x = ⊤ := by
  induction x with
  | bot => simp
  | top => simp
  | coe r => exact absurd ⟨r, rfl⟩ hx

/-- A deviation times the reciprocal root is real, whatever the row: an infinite deviation makes the root infinite. -/
theorem scaled_real {N : Nat} {c : ℝ} (hc : 0 < c) (x : Fin N → EReal) (d : Fin N) :
    IsReal ((x d - mean (c : EReal) x) * Ideal.rsqrt (var (c : EReal) x + eps)) := by
  by_cases h : IsReal (x d - mean (c : EReal) x)
  · exact h.mul (rsqrt_real (var_eps_pos hc x))
  · obtain ⟨e, -, he⟩ := eps_pos
    have hv : var (c : EReal) x + eps = ⊤ := by
      unfold var
      rw [sum_eq_top (f := fun d => (x d - mean (c : EReal) x) * (x d - mean (c : EReal) x)) (fun d => mul_self_nonneg _) d (mul_self_top h), div_pos_real hc, he,
        EReal.top_mul_coe_of_pos (inv_pos.2 hc)]
      rfl
    rw [hv]
    exact ⟨0, by simp⟩

/-- A token's row is real where its gain and its offset are. -/
theorem token_real (h : Fin 768 → EReal) (w : Fin 768 → Fin 128 → EReal) (b g be : Fin 128 → EReal) (d : Fin 128)
    (hg : IsReal (g d)) (hbe : IsReal (be d)) : IsReal (token h w b g be d) := by
  obtain ⟨c, hc, hc'⟩ := c128_pos
  unfold token lnorm
  rw [hc']
  obtain ⟨r, hr⟩ := ((scaled_real hc (affine h w b) d).mul hg).add hbe
  rw [hr]
  exact ⟨max r 0, (EReal.coe_strictMono.monotone.map_max (a := r) (b := 0)).symm⟩

/-- Where the offset is `⊥`, a token's row is zero. -/
theorem token_bot (h : Fin 768 → EReal) (w : Fin 768 → Fin 128 → EReal) (b g be : Fin 128 → EReal) (d : Fin 128)
    (hbe : be d = ⊥) : token h w b g be d = 0 := by
  unfold token lnorm
  rw [hbe]
  simp

/-- Where the gain is real and the offset `⊤`, a token's row is `⊤`. -/
theorem token_top (h : Fin 768 → EReal) (w : Fin 768 → Fin 128 → EReal) (b g be : Fin 128 → EReal) (d : Fin 128)
    (hg : IsReal (g d)) (hbe : be d = ⊤) : token h w b g be d = ⊤ := by
  obtain ⟨c, hc, hc'⟩ := c128_pos
  unfold token lnorm
  rw [hc']
  obtain ⟨r, hr⟩ := (scaled_real hc (affine h w b) d).mul hg
  rw [hr, hbe]
  simp

/-- The layer norm with its scale taken as a quotient by the square root. -/
theorem lnorm_div {N : Nat} {c : EReal} (hc : ∃ r : ℝ, 0 < r ∧ c = (r : EReal)) (x g b : Fin N → EReal) (d : Fin N) :
    lnorm c x g b d = Ideal.div (x d - mean c x) (Ideal.sqrt (var c x + eps)) * g d + b d := by
  obtain ⟨r, hr, rfl⟩ := hc
  rw [div_sqrt _ (var_eps_pos hr _)]
  rfl

end Cert.RowSpec

end
-- ==== Proof.Pre.lean ====
/-
  What the precondition says: between the first and the last token each sequence's mask is a run of ones and then zeros, and
  the gain of the token rows' layer norm is a real number at every coordinate.
-/
module

public import proofs.«01_k».proof.Proof.Gen.Pre_inputs_ok
public import proofs.«01_k».proof.Proof.RowSpec
public import Idealize.ShloMosaic.Lib.ReduceAll
public import Idealize.ShloMosaic.Lib.Affine
public import Idealize.ShloMosaic.Lib.Pointwise

@[expose] public section

set_option maxRecDepth 16384

noncomputable section

open Idealize.ShloMosaic

namespace Cert.Pre_inputs_ok.Read

open Cert.Pre_inputs_ok Cert.Pre_inputs_ok.Gen

/-- A row of words, each zero or one, that never rises is a run of ones and then zeros. -/
theorem run_of_falling {N : ℕ} (f : ℕ → BitVec 32) (h01 : ∀ s < N, f s = 0#32 ∨ f s = 1#32)
    (hle : ∀ s, s + 1 < N → (f (s + 1)).toInt ≤ (f s).toInt) : ∃ n ≤ N, ∀ s < N, f s = if s < n then 1#32 else 0#32 := by
  induction N with
  | zero => exact ⟨0, le_refl _, fun s h => absurd h (Nat.not_lt_zero s)⟩
  | succ N ih =>
    obtain ⟨n, hn, hf⟩ := ih (fun s h => h01 s (by omega)) fun s h => hle s (by omega)
    rcases h01 N (by omega) with h0 | h1
    · refine ⟨n, by omega, fun s hs => ?_⟩
      rcases Nat.lt_succ_iff_lt_or_eq.1 hs with h | rfl
      · exact hf s h
      · rw [h0, if_neg (by omega)]
    · have hN : n = N := by
        by_contra hne
        have hlast := hf (N - 1) (by omega)
        rw [if_neg (by omega)] at hlast
        have := hle (N - 1) (by omega)
        rw [Nat.sub_add_cancel (by omega), h1, hlast] at this
        exact absurd this (by decide)
      subst hN
      refine ⟨n + 1, le_refl _, fun s hs => ?_⟩
      rw [if_pos hs]
      rcases Nat.lt_succ_iff_lt_or_eq.1 hs with h | rfl
      · rw [hf s h, if_pos h]
      · exact h1

variable (a0 : FVec Ideal S32x2048x768 .f32) (a1 : IVec S32x2048 32) (a2 : FVec Ideal S768x128 .f32) (a3 : FVec Ideal S128 .f32)
  (a4 : FVec Ideal S768x768 .f32) (a5 : FVec Ideal S768 .f32) (a6 a7 : FVec Ideal S128 .f32) (a8 a9 : FVec Ideal S768 .f32)
  (h : fn a0 a1 a2 a3 a4 a5 a6 a7 a8 a9 = fun _ => 1#1)
include h

/-- The three conditions that the precondition joins, each at an index. -/
theorem parts :
    (∀ (b : Fin 32) (s : Fin 2046), a1 (ix2 b ⟨1 + s, by omega⟩) = 0#32 ∨ a1 (ix2 b ⟨1 + s, by omega⟩) = 1#32)
    ∧ (∀ (b : Fin 32) (s : Fin 2045), (a1 (ix2 b ⟨1 + (1 + s), by omega⟩)).toInt ≤ (a1 (ix2 b ⟨1 + s, by omega⟩)).toInt)
    ∧ ∀ d : Fin 128, RowSpec.IsReal (a6 (ix1 d)) := by
  have e := congrFun h ix0
  dsimp only [fn] at e
  obtain ⟨e1, e3⟩ := IntOp.andi_eq_one.1 e
  obtain ⟨e1, e2⟩ := IntOp.andi_eq_one.1 e1
  haveI : Subsingleton S_.Idx := ⟨fun _ _ => funext fun a => a.elim0⟩
  refine ⟨fun b s => ?_, fun b s => ?_, fun d => ?_⟩
  · have := Host.reduce_andi_all _ _ _ _ _ e1 (ix2 b s)
    rcases IntOp.ori_eq_one.1 this with k | k
    · left
      have k := IntOp.cmpi_eq.1 k
      refine Eq.trans ?_ k
      pointwise
    · right
      have k := IntOp.cmpi_eq.1 k
      refine Eq.trans ?_ k
      pointwise
  · have k := IntOp.cmpi_sle.1 (Host.reduce_andi_all _ _ _ _ _ e2 (ix2 b s))
    refine le_of_eq_of_le (congrArg BitVec.toInt ?_) (le_of_le_of_eq k (congrArg BitVec.toInt ?_))
    · pointwise
    · pointwise
  · have k : Ideal.cmp .olt (max (a6 (ix1 d)) (-(a6 (ix1 d)))) (Ideal.ofBits .f32 0x7F800000#32) = 1 :=
      Host.reduce_andi_all _ _ _ _ _ e3 (ix1 d)
    have k := (Ideal.cmp_olt_eq_one _ _).1 k
    rw [show Ideal.ofBits .f32 0x7F800000#32 = ⊤ by simp [Ideal.ofBits, Ideal.ieee], max_lt_iff] at k
    refine ⟨EReal.toReal (a6 (ix1 d)), (EReal.coe_toReal k.1.ne fun hb => ?_).symm⟩
    rw [hb] at k
    exact absurd k.2 (by simp)

/-- Every sequence's mask between the first and the last token is some number of ones and then zeros. -/
theorem runs : ∃ n : ℕ → ℕ, (∀ b, n b ≤ 2046) ∧ ∀ (b : Fin 32) (s : ℕ) (hs : s < 2046),
    a1 (ix2 b ⟨s + 1, by omega⟩) = if s < n b then 1#32 else 0#32 := by
  obtain ⟨h01, hle, -⟩ := parts a0 a1 a2 a3 a4 a5 a6 a7 a8 a9 h
  have each : ∀ b : ℕ, ∃ n ≤ 2046, ∀ hb : b < 32, ∀ (s : ℕ) (hs : s < 2046),
      a1 (ix2 ⟨b, hb⟩ ⟨s + 1, by omega⟩) = if s < n then 1#32 else 0#32 := fun b => by
    by_cases hb : b < 32
    · obtain ⟨n, hn, hf⟩ := run_of_falling (N := 2046) (fun s => if hs : s < 2046 then a1 (ix2 ⟨b, hb⟩ ⟨1 + s, by omega⟩) else 0#32)
        (fun s hs => by rw [dif_pos hs]; exact h01 ⟨b, hb⟩ ⟨s, hs⟩)
        (fun s hs => by
          rw [dif_pos hs, dif_pos (show s < 2046 by omega)]
          refine le_of_eq_of_le (congrArg (fun k => (a1 (ix2 ⟨b, hb⟩ k)).toInt) (Fin.ext ?_)) (hle ⟨b, hb⟩ ⟨s, by omega⟩)
          show 1 + (s + 1) = 1 + (1 + s)
          omega)
      refine ⟨n, hn, fun _ s hs => ?_⟩
      rw [← hf s hs, dif_pos hs]
      exact congrArg (fun k => a1 (ix2 ⟨b, hb⟩ k)) (Fin.ext (Nat.add_comm _ _))
    · exact ⟨0, Nat.zero_le _, fun hb' => absurd hb' hb⟩
  choose n hn hf using each
  exact ⟨n, hn, fun b s hs => hf b b.isLt s hs⟩

/-- The gain of the token rows' layer norm is real at every coordinate. -/
theorem gain (d : Fin 128) : RowSpec.IsReal (a6 (ix1 d)) := (parts a0 a1 a2 a3 a4 a5 a6 a7 a8 a9 h).2.2 d

end Cert.Pre_inputs_ok.Read

end
-- ==== Proof.KTok.lean ====
/-
  The kernel's token rows. It treats its 2048 tokens in eight parts of 256; every part goes through the same steps, so
  one lemma reads them all, and the parts one after the other are the rows.
-/
module

public import proofs.«01_k».proof.Proof.Gen.KernelIdeal.Frame
public import proofs.«01_k».proof.Proof.RowSpec
public import Idealize.ShloMosaic.Lib.Pointwise

@[expose] public section

set_option maxRecDepth 16384

noncomputable section

open Idealize.ShloMosaic

namespace Cert.KernelIdeal.Tok

open Cert.KernelIdeal Cert.KernelIdeal.Gen

/-- What the kernel makes of one part of 256 tokens, spelt as it spells the first part. -/
def tokBlock {F : FTy → Type} [FloatOps F] (v1 : FVec F S256x768 .f32) (w : Vec F S768x128 .f32) (b g be : Vec F S1x128 .f32) : FVec F S256x128 .f32 :=
  k0_pay17 (k0_pay14 v1 w b) (k0_pay15 v1 w b) (k0_pay16 v1 w b) (Scalar.ofBits .f32 0x43000000#32) g be

/-- One part, read at an index: the token row of the mathematics. -/
theorem tokBlock_apply (v1 : FVec Ideal S256x768 .f32) (w : Vec Ideal S768x128 .f32) (b g be : Vec Ideal S1x128 .f32) (r : Fin 256) (d : Fin 128) :
    tokBlock v1 w b g be (ix2 r d) =
      RowSpec.token (fun k => v1 (ix2 r k)) (fun k d => w (ix2 k d)) (fun d => b (ix2 0 d)) (fun d => g (ix2 0 d)) (fun d => be (ix2 0 d)) d := by
  pointwise [tokBlock, k0_pay17, k0_pay16, k0_pay15, k0_pay14, k0_pay13]
  rfl

section
variable {F : FTy → Type} [FloatOps F]
variable (v : FVec F S256x768 .f32) (w : Vec F S768x128 .f32) (b g be : Vec F S1x128 .f32)

/-! The other parts are spelt with their steps grouped differently; each is the same computation. -/

/-- The second part. -/
theorem part1_eq : k0_pay19 (k0_pay18 v (k0_pay13 w) b) g be = tokBlock v w b g be := rfl
/-- The third part. -/
theorem part2_eq : k0_pay20 v (k0_pay13 w) b g be = tokBlock v w b g be := rfl
/-- The fourth part. -/
theorem part3_eq : k0_pay22 (k0_pay13 w) (k0_pay21 v) b g be = tokBlock v w b g be := rfl
/-- The fifth part. -/
theorem part4_eq : k0_pay26 (k0_pay23 v (k0_pay13 w) b) (k0_pay24 v (k0_pay13 w) b) (k0_pay25 (F := F)) g be = tokBlock v w b g be := rfl
/-- The sixth part. -/
theorem part5_eq : k0_pay31 (k0_pay29 v (k0_pay13 w) b) (k0_pay30 v (k0_pay13 w) b) (Scalar.ofBits .f32 0x3727C5AC#32) g be = tokBlock v w b g be := rfl
/-- The last two parts, and all eight one after the other. -/
theorem parts_eq (v6 v7 : FVec F S256x768 .f32) (p0 p1 p2 p3 p4 p5 : FVec F S256x128 .f32) :
   k0_pay33 v7 (k0_pay13 w) p0 p1 p2 p3 p4 p5 (k0_pay32 v6 (k0_pay13 w) b g) be b g be =
   concatenate S2048x128 0 [⟨S256x128, p0⟩, ⟨S256x128, p1⟩, ⟨S256x128, p2⟩, ⟨S256x128, p3⟩, ⟨S256x128, p4⟩, ⟨S256x128, p5⟩, ⟨S256x128, tokBlock v6 w b g be⟩, ⟨S256x128, tokBlock v7 w b g be⟩] concatenates_S256x128_S256x128_S256x128_S256x128_S256x128_S256x128_S256x128_S256x128_S2048x128_d0 := rfl
end

/-- Eight parts one after the other, read at an index: where part `p` holds the rows `256 p` to `256 p + 255` of `T`,
    they hold `T`. -/
theorem join_apply (p0 p1 p2 p3 p4 p5 p6 p7 : FVec Ideal S256x128 .f32) (T : ℕ → Fin 128 → EReal)
    (h0 : ∀ r d, p0 (ix2 r d) = T r d) (h1 : ∀ r d, p1 (ix2 r d) = T (256 + r) d)
    (h2 : ∀ r d, p2 (ix2 r d) = T (512 + r) d) (h3 : ∀ r d, p3 (ix2 r d) = T (768 + r) d)
    (h4 : ∀ r d, p4 (ix2 r d) = T (1024 + r) d) (h5 : ∀ r d, p5 (ix2 r d) = T (1280 + r) d)
    (h6 : ∀ r d, p6 (ix2 r d) = T (1536 + r) d) (h7 : ∀ r d, p7 (ix2 r d) = T (1792 + r) d) (j : Fin 2048) (d : Fin 128) :
    concatenate S2048x128 0 [⟨S256x128, p0⟩, ⟨S256x128, p1⟩, ⟨S256x128, p2⟩, ⟨S256x128, p3⟩, ⟨S256x128, p4⟩, ⟨S256x128, p5⟩, ⟨S256x128, p6⟩, ⟨S256x128, p7⟩] concatenates_S256x128_S256x128_S256x128_S256x128_S256x128_S256x128_S256x128_S256x128_S2048x128_d0 (ix2 j d) = T j d := by
  pointwise
  have hj := j.isLt
  repeat' split
  · exact h0 _ _
  · exact (h1 _ _).trans (congrArg (T · d) (by show 256 + ((j : ℕ) - 256) = j; omega))
  · exact (h2 _ _).trans (congrArg (T · d) (by show 512 + ((j : ℕ) - 256 - 256) = j; omega))
  · exact (h3 _ _).trans (congrArg (T · d) (by show 768 + ((j : ℕ) - 256 - 256 - 256) = j; omega))
  · exact (h4 _ _).trans (congrArg (T · d) (by show 1024 + ((j : ℕ) - 256 - 256 - 256 - 256) = j; omega))
  · exact (h5 _ _).trans (congrArg (T · d) (by show 1280 + ((j : ℕ) - 256 - 256 - 256 - 256 - 256) = j; omega))
  · exact (h6 _ _).trans (congrArg (T · d) (by show 1536 + ((j : ℕ) - 256 - 256 - 256 - 256 - 256 - 256) = j; omega))
  · exact (h7 _ _).trans (congrArg (T · d) (by show 1792 + ((j : ℕ) - 256 - 256 - 256 - 256 - 256 - 256 - 256) = j; omega))

end Cert.KernelIdeal.Tok

end
-- ==== Proof.Window.lean ====
/-
  The mathematics of the sliding window, on the extended reals, away from any program. Rows `r 0, …, r (L - 1)` are given;
  row `i` of the result is the sum of the rows from `i - 5` up to `i + 4` that exist, scaled to length one. The kernel sums the
  rows of the window and multiplies by a reciprocal root; the reference subtracts two prefix sums, divides by the number of rows,
  and divides by the length of that mean. `rows_eq` says that these are the same row, where every row is real or where one
  coordinate is `⊤` in every row.
-/
module

public import proofs.«01_k».proof.Proof.RowSpec

@[expose] public section

noncomputable section

open Idealize.ShloMosaic Cert.RowSpec

namespace Cert.Window

variable (r : ℕ → Fin 128 → EReal) (L i : ℕ)

/-- The sum of the rows in the window of row `i`. -/
def wsum (d : Fin 128) : EReal := ∑ j ∈ Finset.Ico (i - 5) (min (i + 5) L), r j d

/-- The squared length of that sum. -/
def sqlen : EReal := ∑ d, wsum r L i d * wsum r L i d

/-- The kernel's row: the window's sum times the reciprocal of its length, and zero past the last row or at length zero. -/
def kernelRow (d : Fin 128) : EReal :=
  if i < L ∧ 0 < sqlen r L i then wsum r L i d * Ideal.rsqrt (sqlen r L i) else 0

/-- The sum of the first `k` rows, each row weighted by one below `L` and by zero from there on. -/
def prefixSum (k : ℕ) (d : Fin 128) : EReal := ∑ j ∈ Finset.range k, r j d * (if j < L then 1 else 0)

/-- The reference's mean over the window: a difference of prefix sums over the number of rows; zero past the last row. -/
def meanRow (d : Fin 128) : EReal :=
  if i < L then
    Ideal.div (prefixSum r L (min (i + 5) L) d - prefixSum r L (i - 5) d) (((min (i + 5) L - (i - 5) : ℕ) : ℝ) : EReal)
  else 0

/-- The length of the mean. -/
def meanLen : EReal := Ideal.sqrt (∑ d, meanRow r L i d * meanRow r L i d)

/-- The reference's row: the mean over its length, and zero at length zero. -/
def referenceRow (d : Fin 128) : EReal := if 0 < meanLen r L i then Ideal.div (meanRow r L i d) (meanLen r L i) else 0

/-- A prefix sum no longer than `L` is the plain sum of its rows. -/
theorem prefixSum_eq {k : ℕ} (hk : k ≤ L) (d : Fin 128) : prefixSum r L k d = ∑ j ∈ Finset.range k, r j d :=
  Finset.sum_congr rfl fun j hj => by
    have : j < L := lt_of_lt_of_le (Finset.mem_range.1 hj) hk
    rw [if_pos this, mul_one]

/-- Past the last row both rows are zero. -/
theorem rows_eq_past (h : ¬ i < L) (d : Fin 128) : referenceRow r L i d = kernelRow r L i d := by
  have hm : ∀ d, meanRow r L i d = 0 := fun d => if_neg h
  have hn : meanLen r L i = 0 := by
    unfold meanLen
    simp only [hm, mul_zero, Finset.sum_const_zero]
    rw [← EReal.coe_zero, Ideal.sqrt_coe]
    simp
  unfold referenceRow kernelRow
  rw [hn, if_neg (lt_irrefl _), if_neg fun e => h e.1]

/-- A sum of reals, each read as an extended real. -/
theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The two scalings of a real vector `W`: over its length, and its multiple `W / c` over the length of that. -/
theorem scale_eq (W : Fin 128 → ℝ) {c : ℝ} (hc : 0 < c) (d : Fin 128) :
    (let M : Fin 128 → EReal := fun d => Ideal.div (W d : EReal) (c : EReal)
     let n : EReal := Ideal.sqrt (∑ d, M d * M d)
     if 0 < n then Ideal.div (M d) n else 0)
      = if 0 < ∑ d, (W d : EReal) * (W d : EReal) then (W d : EReal) * Ideal.rsqrt (∑ d, (W d : EReal) * (W d : EReal)) else 0 := by
  have hM : ∀ d, Ideal.div (W d : EReal) (c : EReal) = ((W d * c⁻¹ : ℝ) : EReal) := fun d => by
    rw [div_pos_real hc, EReal.coe_mul]
  have hQ : ∑ d, (W d : EReal) * (W d : EReal) = ((∑ d, W d * W d : ℝ) : EReal) := by
    rw [← coe_sum]; exact Finset.sum_congr rfl fun d _ => (EReal.coe_mul _ _).symm
  have hS : ∑ d, ((W d * c⁻¹ : ℝ) : EReal) * ((W d * c⁻¹ : ℝ) : EReal) = (((∑ d, W d * W d) * (c⁻¹ * c⁻¹) : ℝ) : EReal) := by
    rw [Finset.sum_mul, ← coe_sum]
    exact Finset.sum_congr rfl fun d _ => by rw [← EReal.coe_mul]; congr 1; ring
  have h0 : 0 ≤ ∑ d, W d * W d := Finset.sum_nonneg fun d _ => _root_.mul_self_nonneg (W d)
  have hcc : 0 < c⁻¹ * c⁻¹ := by positivity
  dsimp only
  simp only [hM, hS, hQ]
  generalize ∑ d, W d * W d = Q at h0
  rw [Ideal.sqrt_coe, if_neg (mul_nonneg h0 hcc.le).not_gt, Real.sqrt_mul h0, Real.sqrt_mul_self (inv_pos.2 hc).le]
  rcases h0.eq_or_lt with rfl | hq
  · simp
  · have hs : 0 < Real.sqrt Q := Real.sqrt_pos.2 hq
    have hn : 0 < Real.sqrt Q * c⁻¹ := mul_pos hs (inv_pos.2 hc)
    rw [if_pos (by exact_mod_cast hn), if_pos (by exact_mod_cast hq), div_pos_real hn, Ideal.rsqrt_coe, if_neg hq.not_gt,
      if_neg hq.ne', ← EReal.coe_mul, ← EReal.coe_mul]
    congr 1
    field_simp

/-- Where every row is real, the two rows agree. -/
theorem rows_eq_real (hL : i < L) (hr : ∀ j < L, ∀ d, IsReal (r j d)) (d : Fin 128) :
    referenceRow r L i d = kernelRow r L i d := by
  choose! ρ hρ using hr
  have hk : ∀ k ≤ L, ∀ d, prefixSum r L k d = ((∑ j ∈ Finset.range k, ρ j d : ℝ) : EReal) := fun k hk d => by
    rw [prefixSum_eq r L hk, ← coe_sum]
    exact Finset.sum_congr rfl fun j hj => hρ j (lt_of_lt_of_le (Finset.mem_range.1 hj) hk) d
  have hw : ∀ d, wsum r L i d = ((∑ j ∈ Finset.Ico (i - 5) (min (i + 5) L), ρ j d : ℝ) : EReal) := fun d => by
    unfold wsum
    rw [← coe_sum]
    exact Finset.sum_congr rfl fun j hj => hρ j (lt_of_lt_of_le (Finset.mem_Ico.1 hj).2 (min_le_right _ _)) d
  have hd : ∀ d, prefixSum r L (min (i + 5) L) d - prefixSum r L (i - 5) d
      = ((∑ j ∈ Finset.Ico (i - 5) (min (i + 5) L), ρ j d : ℝ) : EReal) := fun d => by
    rw [hk _ (min_le_right _ _), hk _ (by omega), ← EReal.coe_sub, Finset.sum_Ico_eq_sub _ (by omega)]
  have hc : (0 : ℝ) < ((min (i + 5) L - (i - 5) : ℕ) : ℝ) := by
    have : 0 < min (i + 5) L - (i - 5) := by omega
    exact_mod_cast this
  have key := scale_eq (fun d => ∑ j ∈ Finset.Ico (i - 5) (min (i + 5) L), ρ j d) hc d
  unfold referenceRow kernelRow meanLen meanRow sqlen
  simp only [hd, hw, if_pos hL, hL, true_and]
  exact key

/-- A sum over a nonempty set of terms that are all `⊤` is `⊤`. -/
theorem sum_top {s : Finset ℕ} {f : ℕ → EReal} {j : ℕ} (hj : j ∈ s) (hf : ∀ j ∈ s, f j = ⊤) : ∑ j ∈ s, f j = ⊤ :=
  top_le_iff.1 (hf j hj ▸ Finset.single_le_sum (fun k hk => by rw [hf k hk]; exact le_top) hj)

/-- Where some coordinate is `⊤` in every row, both rows are zero. -/
theorem rows_eq_top (hL : i < L) {e : Fin 128} (hr : ∀ j < L, r j e = ⊤) (d : Fin 128) :
    referenceRow r L i d = kernelRow r L i d := by
  have hw : wsum r L i e = ⊤ := sum_top (j := i) (Finset.mem_Ico.2 ⟨by omega, by omega⟩)
    fun j hj => hr j (lt_of_lt_of_le (Finset.mem_Ico.1 hj).2 (min_le_right _ _))
  have hq : sqlen r L i = ⊤ :=
    sum_eq_top (f := fun d => wsum r L i d * wsum r L i d) (fun d => mul_self_nonneg _) e (by rw [hw]; rfl)
  have hc : (0 : ℝ) < ((min (i + 5) L - (i - 5) : ℕ) : ℝ) := by
    have : 0 < min (i + 5) L - (i - 5) := by omega
    exact_mod_cast this
  have hp : prefixSum r L (min (i + 5) L) e = ⊤ := by
    rw [prefixSum_eq r L (min_le_right _ _)]
    exact sum_top (j := 0) (Finset.mem_range.2 (by omega))
      fun j hj => hr j (lt_of_lt_of_le (Finset.mem_range.1 hj) (min_le_right _ _))
  have hm : ¬ IsReal (meanRow r L i e) := by
    unfold meanRow
    rw [if_pos hL, hp, div_pos_real hc]
    generalize prefixSum r L (i - 5) e = x
    have hci : (0 : ℝ) < ((min (i + 5) L - (i - 5) : ℕ) : ℝ)⁻¹ := inv_pos.2 hc
    rintro ⟨y, hy⟩
    induction x with
    | bot => simp [EReal.top_mul_coe_of_pos hci] at hy
    | top => simp [EReal.bot_mul_coe_of_pos hci] at hy
    | coe a => simp [EReal.top_mul_coe_of_pos hci] at hy
  have hn : meanLen r L i = ⊤ := by
    unfold meanLen
    rw [sum_eq_top (f := fun d => meanRow r L i d * meanRow r L i d) (fun d => mul_self_nonneg _) e (mul_self_top hm)]
    rfl
  unfold referenceRow kernelRow
  rw [hn, hq]
  simp [Ideal.div]

/-- The kernel's row and the reference's row are the same, where every row is real or some coordinate is `⊤` in every row. -/
theorem rows_eq (hr : (∀ j < L, ∀ d, IsReal (r j d)) ∨ ∃ e, ∀ j < L, r j e = ⊤) (d : Fin 128) :
    referenceRow r L i d = kernelRow r L i d := by
  by_cases hL : i < L
  · rcases hr with hr | ⟨e, hr⟩
    · exact rows_eq_real r L i hL hr d
    · exact rows_eq_top r L i hL hr d
  · exact rows_eq_past r L i hL d

/-- The kernel's row depends on the first `L` rows alone. -/
theorem kernelRow_congr {r r' : ℕ → Fin 128 → EReal} {L : ℕ} (h : ∀ j < L, r j = r' j) (i : ℕ) (d : Fin 128) :
    kernelRow r L i d = kernelRow r' L i d := by
  have hw : ∀ d, wsum r L i d = wsum r' L i d := fun d =>
    Finset.sum_congr rfl fun j hj => by rw [h j (by simp only [Finset.mem_Ico] at hj; omega)]
  unfold kernelRow sqlen
  simp only [hw]

end Cert.Window

end
-- ==== Proof.KWin.lean ====
/-
  The kernel's window sums, read at an index: the sum of the token rows in a window of ten, by three doublings and one
  last addition of two rows.
-/
module

public import proofs.«01_k».proof.Proof.Gen.KernelIdeal.Frame
public import Idealize.ShloMosaic.Lib.Pointwise
public import Idealize.ShloMosaic.Lib.WordCmp
public import Idealize.ShloMosaic.Lib.StableHlo.Predicate
public import proofs.«01_k».proof.Proof.Window

@[expose] public section

set_option maxRecDepth 16384

noncomputable section

open Idealize.ShloMosaic

namespace Cert.KernelIdeal.Win

open Cert.KernelIdeal Cert.KernelIdeal.Gen

section
variable {F : FTy → Type} [FloatOps F]

/-- The zero that the kernel fills with. -/
abbrev z0 : F .f32 := Scalar.ofBits .f32 0x00000000#32

/-- The word the kernel counts: the ones among lanes 1 to 2046 of its mask block. -/
def count (M : IVec S1x2048 32) : BitVec 32 := extractAt ![0, 0, 0] (k0_pay35 M) inpos_S1x1x1_p0_0_0

/-- The kept rows: row `i` is the token row after it where `i` is below the count, else zero; with eight zero rows in front. -/
def kept (R : FVec F S2048x128 .f32) (L : BitVec 32) : FVec F S2056x128 .f32 :=
  concatenate S2056x128 0 [⟨S8x128, broadcast S8x128 z0⟩,
    ⟨S2048x128, select (broadcastTo S2048x128 (shapeCast S2048x1 (cmpi .slt (iota .tc S2048x1 32 [0] iota_S2048x1_d0_w32) (broadcast S2048x1 L)) shapeCasts_S2048x1_S2048x1) broadcasts_S2048x1_S2048x128)
      (concatenate S2048x128 0 [⟨S2047x128, extractStridedSlice S2047x128 ![1, 0] R slices_S2048x128_o1_0_S2047x128⟩, ⟨S1x128, broadcast S1x128 z0⟩] concatenates_S2047x128_S1x128_S2048x128_d0)
      (broadcast S2048x128 z0)⟩] concatenates_S8x128_S2048x128_S2056x128_d0

/-- Each row plus the row one below it. -/
def add1 (x : FVec F S2056x128 .f32) : FVec F S2056x128 .f32 :=
  addf x (concatenate S2056x128 0 [⟨S2055x128, extractStridedSlice S2055x128 ![1, 0] x slices_S2056x128_o1_0_S2055x128⟩, ⟨S1x128, broadcast S1x128 z0⟩] concatenates_S2055x128_S1x128_S2056x128_d0)

/-- Each row plus the row two below it. -/
def add2 (x : FVec F S2056x128 .f32) : FVec F S2056x128 .f32 :=
  addf x (concatenate S2056x128 0 [⟨S2054x128, extractStridedSlice S2054x128 ![2, 0] x slices_S2056x128_o2_0_S2054x128⟩, ⟨S2x128, broadcast S2x128 z0⟩] concatenates_S2054x128_S2x128_S2056x128_d0)

/-- Each row plus the row four below it. -/
def add4 (x : FVec F S2056x128 .f32) : FVec F S2056x128 .f32 :=
  addf x (concatenate S2056x128 0 [⟨S2052x128, extractStridedSlice S2052x128 ![4, 0] x slices_S2056x128_o4_0_S2052x128⟩, ⟨S4x128, broadcast S4x128 z0⟩] concatenates_S2052x128_S4x128_S2056x128_d0)

/-- The eight rows from five above and the two rows from three below, added and cut to the kernel's rows. -/
def join (x8 x2 : FVec F S2056x128 .f32) : FVec F S2048x128 .f32 :=
  extractStridedSlice S2048x128 ![8, 0]
    (addf (concatenate S2056x128 0 [⟨S5x128, broadcast S5x128 z0⟩, ⟨S2051x128, extractStridedSlice S2051x128 ![0, 0] x8 slices_S2056x128_o0_0_S2051x128⟩] concatenates_S5x128_S2051x128_S2056x128_d0)
      (concatenate S2056x128 0 [⟨S2053x128, extractStridedSlice S2053x128 ![3, 0] x2 slices_S2056x128_o3_0_S2053x128⟩, ⟨S3x128, broadcast S3x128 z0⟩] concatenates_S2053x128_S3x128_S2056x128_d0)) slices_S2056x128_o8_0_S2048x128

/-- The kernel's window sums are these steps one after the other. -/
theorem win_eq (R : FVec F S2048x128 .f32) (M : IVec S1x2048 32) :
    k0_pay36 R M = join (add4 (add2 (add1 (kept R (count M))))) (add1 (kept R (count M))) := rfl
end

/-- Row `j` of the kept rows before masking: the token row after row `j`. -/
def rowAfter (R : FVec Ideal S2048x128 .f32) (j : ℕ) (d : Fin 128) : EReal :=
  if h : j + 1 < 2048 then R (ix2 ⟨j + 1, h⟩ d) else 0

/-- The kept rows as a function of all naturals: eight zero rows, the first `n` rows, zero from there on. -/
def keptAt (r : ℕ → Fin 128 → EReal) (n k : ℕ) (d : Fin 128) : EReal := if 8 ≤ k ∧ k - 8 < n then r (k - 8) d else 0

/-- Past the kept rows everything is zero. -/
theorem keptAt_zero (r : ℕ → Fin 128 → EReal) {n k : ℕ} (hn : n ≤ 2046) (hk : 2054 ≤ k) (d : Fin 128) : keptAt r n k d = 0 :=
  if_neg fun h => by omega

/-- The kernel's kept rows, read at an index. -/
theorem kept_apply (R : FVec Ideal S2048x128 .f32) {n : ℕ} (hn : n ≤ 2046) (i : Fin 2056) (d : Fin 128) :
    kept R (BitVec.ofNat 32 n) (ix2 i d) = keptAt (rowAfter R) n i d := by
  have hi := i.isLt
  have e : kept R (BitVec.ofNat 32 n) (ix2 i d) = if h : (i : ℕ) < 8 then 0 else
      Scalar.select (IntOp.cmpi .slt (BitVec.ofNat 32 ((i : ℕ) - 8)) (BitVec.ofNat 32 n))
        (if h' : (i : ℕ) - 8 < 2047 then R (ix2 ⟨1 + ((i : ℕ) - 8), by omega⟩ d) else 0) 0 := by
    pointwise [kept]
  rw [e]
  unfold keptAt rowAfter
  by_cases h8 : (i : ℕ) < 8
  · rw [dif_pos h8, if_neg (by omega)]
  · rw [dif_neg h8, WordCmp.cmpi_slt_ofNat (by omega) (by omega)]
    by_cases hL : (i : ℕ) - 8 < n
    · rw [decide_eq_true hL, if_pos ⟨by omega, hL⟩, dif_pos (by omega), dif_pos (by omega)]
      exact congrArg (fun k => R (ix2 k d)) (Fin.ext (by show 1 + ((i : ℕ) - 8) = (i : ℕ) - 8 + 1; omega))
    · rw [decide_eq_false hL, if_neg fun h => hL h.2]
      rfl

section
variable (x : FVec Ideal S2056x128 .f32) (G : ℕ → EReal) (d : Fin 128)
variable (hx : ∀ i : Fin 2056, x (ix2 i d) = G i) (hG : ∀ k, 2056 ≤ k → G k = 0)
include hx hG

/-- A row plus the row one below it, read at an index; rows past the end count as zero. -/
theorem add1_apply (i : Fin 2056) : add1 x (ix2 i d) = G i + G (i + 1) := by
  pointwise [add1]
  rw [hx]
  congr 1
  split
  · rw [hx]; exact congrArg G (by show 1 + (i : ℕ) = _; omega)
  · exact (hG _ (by omega)).symm

/-- The sums of rows two apart, read at an index. -/
theorem add2_apply (i : Fin 2056) : add2 x (ix2 i d) = G i + G (i + 2) := by
  pointwise [add2]
  rw [hx]
  congr 1
  split
  · rw [hx]; exact congrArg G (by show 2 + (i : ℕ) = _; omega)
  · exact (hG _ (by omega)).symm

/-- The sums of rows four apart, read at an index. -/
theorem add4_apply (i : Fin 2056) : add4 x (ix2 i d) = G i + G (i + 4) := by
  pointwise [add4]
  rw [hx]
  congr 1
  split
  · rw [hx]; exact congrArg G (by show 4 + (i : ℕ) = _; omega)
  · exact (hG _ (by omega)).symm

/-- The two sums that `join` adds, read at an index. -/
theorem join_apply (x8 : FVec Ideal S2056x128 .f32) (G8 : ℕ → EReal) (hx8 : ∀ i : Fin 2056, x8 (ix2 i d) = G8 i) (i : Fin 2048) :
    join x8 x (ix2 i d) = G8 (i + 3) + G (i + 11) := by
  pointwise [join]
  have hi := i.isLt
  rw [dif_neg (by omega), hx8]
  congr 1
  · exact congrArg G8 (by show 8 + (i : ℕ) - 5 = _; omega)
  · split
    · rw [hx]; exact congrArg G (by show 3 + (8 + (i : ℕ)) = _; omega)
    · exact (hG _ (by omega)).symm
end

/-- Ten kept rows in a row are the rows of the window. -/
theorem sum_keptAt (r : ℕ → Fin 128 → EReal) (n i : ℕ) (d : Fin 128) :
    ∑ t ∈ Finset.range 10, keptAt r n (i + 3 + t) d = Window.wsum r n i d := by
  unfold keptAt Window.wsum
  rw [← Finset.sum_filter]
  refine Finset.sum_nbij' (fun t => i + t - 5) (fun j => j + 5 - i) ?_ ?_ ?_ ?_ ?_
  all_goals intro a ha; simp only [Finset.mem_filter, Finset.mem_range, Finset.mem_Ico] at ha ⊢
  · omega
  · omega
  · omega
  · omega
  · exact congrFun (congrArg r (by omega)) d

/-- The kernel's window sums, read at an index. -/
theorem win_apply (R : FVec Ideal S2048x128 .f32) (M : IVec S1x2048 32) {n : ℕ} (hn : n ≤ 2046)
    (hM : count M = BitVec.ofNat 32 n) (i : Fin 2048) (d : Fin 128) :
    k0_pay36 R M (ix2 i d) = Window.wsum (rowAfter R) n i d := by
  rw [win_eq, hM]
  set K : ℕ → EReal := fun k => keptAt (rowAfter R) n k d with hK
  have z : ∀ k, 2054 ≤ k → K k = 0 := fun k hk => keptAt_zero _ hn hk d
  have h1 : ∀ i : Fin 2056, kept R (BitVec.ofNat 32 n) (ix2 i d) = K i := fun i => kept_apply R hn i d
  have h2 := add1_apply _ K d h1 fun k hk => z k (by omega)
  have z2 : ∀ k, 2056 ≤ k → K k + K (k + 1) = 0 := fun k hk => by rw [z k (by omega), z (k + 1) (by omega), add_zero]
  have h4 := add2_apply _ (fun k => K k + K (k + 1)) d h2 z2
  have h8 := add4_apply _ (fun k => K k + K (k + 1) + (K (k + 2) + K (k + 2 + 1))) d h4 fun k hk => by
    rw [z2 k hk, zero_add]; exact z2 (k + 2) (by omega)
  rw [join_apply _ (fun k => K k + K (k + 1)) d h2 z2 _
    (fun k => K k + K (k + 1) + (K (k + 2) + K (k + 2 + 1)) + (K (k + 4) + K (k + 4 + 1) + (K (k + 4 + 2) + K (k + 4 + 2 + 1)))) h8,
    ← sum_keptAt]
  simp only [Finset.sum_range_succ, Finset.sum_range_zero, zero_add, ← hK, add_zero]
  simp only [add_assoc, Nat.reduceAdd]
  rfl

/-- The kernel's squared lengths, read at an index. -/
theorem len_apply (R : FVec Ideal S2048x128 .f32) (M : IVec S1x2048 32) {n : ℕ} (hn : n ≤ 2046)
    (hM : count M = BitVec.ofNat 32 n) (i : Fin 2048) :
    k0_pay37 R M (ix2 i 0) = Window.sqlen (rowAfter R) n i := by
  pointwise [k0_pay37]
  exact Finset.sum_congr rfl fun d _ => by rw [win_apply R M hn hM]

/-- How many of the first 2046 naturals are below `n`, as a sum over the lanes 1 to 2046 of 2048. -/
theorem sum_lanes {n : ℕ} (hn : n ≤ 2046) :
    ∑ s : Fin 2048, (if 1 ≤ (s : ℕ) ∧ (s : ℕ) - 1 < n then 1 else 0) = n := by
  rw [Fin.sum_univ_eq_sum_range (fun s => if 1 ≤ s ∧ s - 1 < n then 1 else 0) 2048, ← Finset.sum_filter, Finset.sum_const,
    smul_eq_mul, mul_one]
  have : (Finset.range 2048).filter (fun s => 1 ≤ s ∧ s - 1 < n) = Finset.Ico 1 (n + 1) := by
    ext s; simp only [Finset.mem_filter, Finset.mem_range, Finset.mem_Ico]; omega
  rw [this, Nat.card_Ico]
  omega

/-- Where the lanes from 1 on are `n` ones and then zeros up to lane 2046, the kernel counts `n`. -/
theorem count_eq (M : IVec S1x2048 32) {n : ℕ} (hn : n ≤ 2046)
    (hM : ∀ (s : ℕ) (h : s < 2046), M (ix2 0 ⟨s + 1, by omega⟩) = if s < n then 1#32 else 0#32) :
    count M = BitVec.ofNat 32 n := by
  pointwise [count, k0_pay35]
  have hf : ∀ x : Fin 1 × Fin 2048, (Scalar.select (IntOp.andi (IntOp.cmpi .sge (BitVec.ofNat 32 x.2) 1#32)
      (IntOp.cmpi .slt (BitVec.ofNat 32 x.2) 2047#32)) (M (ix2 0 x.2)) 0#32).toNat
        = if 1 ≤ (x.2 : ℕ) ∧ (x.2 : ℕ) - 1 < n then 1 else 0 := by
    rintro ⟨-, s⟩
    have hs := s.isLt
    show (Scalar.select (IntOp.andi (IntOp.cmpi .sge (BitVec.ofNat 32 s) (BitVec.ofNat 32 1))
      (IntOp.cmpi .slt (BitVec.ofNat 32 s) (BitVec.ofNat 32 2047))) (M (ix2 0 s)) 0#32).toNat = if 1 ≤ (s : ℕ) ∧ (s : ℕ) - 1 < n then 1 else 0
    rw [WordCmp.cmpi_sge_ofNat (by omega) (by omega), WordCmp.cmpi_slt_ofNat (by omega) (by omega), WordCmp.andi_ofBool]
    by_cases h : 1 ≤ (s : ℕ) ∧ (s : ℕ) < 2047
    · have e := hM (s - 1) (by omega)
      rw [show (⟨(s : ℕ) - 1 + 1, by omega⟩ : Fin 2048) = s from Fin.ext (by show (s : ℕ) - 1 + 1 = s; omega)] at e
      rw [e]
      simp only [h.1, h.2, decide_true, Bool.and_true, true_and]
      by_cases h' : (s : ℕ) - 1 < n
      · rw [if_pos h', if_pos h']; rfl
      · rw [if_neg h', if_neg h']; rfl
    · rw [if_neg (by omega)]
      have : (decide (1 ≤ (s : ℕ)) && decide ((s : ℕ) < 2047)) = false := by simpa using h
      rw [this]
      rfl
  have hsum : ∑ x : Fin 1 × Fin 2048, (if 1 ≤ (x.2 : ℕ) ∧ (x.2 : ℕ) - 1 < n then 1 else 0) = n := by
    rw [Fintype.sum_prod_type]
    simpa using sum_lanes hn
  apply BitVec.eq_of_toNat_eq
  rw [StableHlo.Predicate.toNat_fold_addi]
  · simp only [hf, hsum, BitVec.toNat_ofNat]; omega
  · simp only [hf, hsum]; omega

/-- One block of the kernel's token result, read at an index: the kernel's row of the window's mathematics. -/
theorem block_apply (R : FVec Ideal S2048x128 .f32) (M : IVec S1x2048 32) {n : ℕ} (hn : n ≤ 2046)
    (hM : ∀ (s : ℕ) (h : s < 2046), M (ix2 0 ⟨s + 1, by omega⟩) = if s < n then 1#32 else 0#32) (i : Fin 2046) (d : Fin 128) :
    k0_pay1 (extractAt ![0, 0, 0] (k0_pay35 M) inpos_S1x1x1_p0_0_0) (iota .tc S2048x1 32 [0] iota_S2048x1_d0_w32) (k0_pay36 R M) (k0_pay37 R M) (ix3 0 i d)
      = Window.kernelRow (rowAfter R) n i d := by
  have hc := count_eq M hn hM
  have hi := i.isLt
  have e := win_apply R M hn hc ⟨i, by omega⟩ d
  have l := len_apply R M hn hc ⟨i, by omega⟩
  rw [show extractAt ![0, 0, 0] (k0_pay35 M) inpos_S1x1x1_p0_0_0 = BitVec.ofNat 32 n from hc]
  pointwise [k0_pay1]
  rw [e, l, WordCmp.cmpi_slt_ofNat (by omega) (by omega), WordCmp.andi_ofBool]
  unfold Window.kernelRow
  by_cases h : (i : ℕ) < n ∧ 0 < Window.sqlen (rowAfter R) n i
  · rw [if_pos h]
    have : (decide ((i : ℕ) < n) && decide (0 < Window.sqlen (rowAfter R) n i)) = true := by simpa using h
    rw [this]; rfl
  · rw [if_neg h]
    have : (decide ((i : ℕ) < n) && decide (0 < Window.sqlen (rowAfter R) n i)) = false := by
      rw [← Bool.decide_and]; exact decide_eq_false h
    rw [this]; rfl

end Cert.KernelIdeal.Win

end
-- ==== Proof.KBlock.lean ====
/-
  What one grid point of the kernel leaves in its two result blocks, from the blocks it reads: the first token's row, and
  the window rows of its token rows.
-/
module

public import proofs.«01_k».proof.Proof.KTok
public import proofs.«01_k».proof.Proof.KWin

@[expose] public section

set_option maxRecDepth 16384

noncomputable section

open Idealize.ShloMosaic

namespace Cert.KernelIdeal.Block

open Cert.KernelIdeal Cert.KernelIdeal.Gen

/-- Two zero offsets, as a constant function. -/
theorem zero2 : (![0, 0] : Fin 2 → Nat) = fun _ => 0 := funext fun a => by fin_cases a <;> rfl

/-- Three zero offsets, as a constant function. -/
theorem zero3 : (![0, 0, 0] : Fin 3 → Nat) = fun _ => 0 := funext fun a => by fin_cases a <;> rfl

/-! The body reads every block whole. -/

/-- A whole block of features is loaded as it is. -/
theorem ld_0 (x : Vec Ideal S1x256x768 .f32) : View.ld x r0_0 = x := by rw [View.ld_unit_zero zero3]

/-- The first token's whole weights are loaded as they are. -/
theorem ld_1 (x : Vec Ideal S768x768 .f32) : View.ld x r0_1 = x := by rw [View.ld_unit_zero zero2]

/-- A whole row of 768 is loaded as it is. -/
theorem ld_2 (x : Vec Ideal S1x768 .f32) : View.ld x r0_2 = x := by rw [View.ld_unit_zero zero2]

/-- The token weights are loaded as they are. -/
theorem ld_4 (x : Vec Ideal S768x128 .f32) : View.ld x r0_4 = x := by rw [View.ld_unit_zero zero2]

/-- A whole row of 128 is loaded as it is. -/
theorem ld_5 (x : Vec Ideal S1x128 .f32) : View.ld x r0_5 = x := by rw [View.ld_unit_zero zero2]

variable (x0 x1 x2 x3 x4 x5 x6 x7 : Vec Ideal S1x256x768 .f32) (x8 : Vec Ideal S1x1x2048 .i32)
variable (x9 : Vec Ideal S768x128 .f32) (x10 : Vec Ideal S1x128 .f32) (x11 : Vec Ideal S768x768 .f32) (x12 : Vec Ideal S1x768 .f32)
variable (x13 x14 : Vec Ideal S1x128 .f32) (x15 x16 : Vec Ideal S1x768 .f32)

/-- The token rows of a grid point are its eight parts one after the other. -/
theorem tokens_eq : k0_pay42 x0 x1 x2 x3 x4 x5 x6 x7 x8 x9 x10 x11 x12 x13 x14 x15 x16 = concatenate S2048x128 0
    [⟨S256x128, Tok.tokBlock (k0_pay2 x0) x9 x10 x13 x14⟩, ⟨S256x128, Tok.tokBlock (k0_pay3 x1) x9 x10 x13 x14⟩, ⟨S256x128, Tok.tokBlock (k0_pay4 x2) x9 x10 x13 x14⟩, ⟨S256x128, Tok.tokBlock (k0_pay5 x3) x9 x10 x13 x14⟩, ⟨S256x128, Tok.tokBlock (k0_pay6 x4) x9 x10 x13 x14⟩, ⟨S256x128, Tok.tokBlock (k0_pay7 x5) x9 x10 x13 x14⟩, ⟨S256x128, Tok.tokBlock (k0_pay8 x6) x9 x10 x13 x14⟩, ⟨S256x128, Tok.tokBlock (k0_pay9 x7) x9 x10 x13 x14⟩]
    concatenates_S256x128_S256x128_S256x128_S256x128_S256x128_S256x128_S256x128_S256x128_S2048x128_d0 := by
  unfold k0_pay42 k0_pay41 k0_pay40 k0_pay39 k0_pay38
  simp only [ld_0, ld_1, ld_2, ld_4, ld_5]
  rw [Tok.part1_eq, Tok.part2_eq, Tok.part3_eq, Tok.part4_eq, Tok.part5_eq, Tok.parts_eq]
  rfl

/-- The token rows of a grid point, read at an index: where the eight parts hold the tokens' features `H`, row `j` is the
    token row of `H j`. -/
theorem tokens_apply (H : ℕ → Fin 768 → EReal)
    (h0 : ∀ (r : Fin 256) (k : Fin 768), x0 (ix3 0 r k) = H (0 + r) k)
    (h1 : ∀ (r : Fin 256) (k : Fin 768), x1 (ix3 0 r k) = H (256 + r) k)
    (h2 : ∀ (r : Fin 256) (k : Fin 768), x2 (ix3 0 r k) = H (512 + r) k)
    (h3 : ∀ (r : Fin 256) (k : Fin 768), x3 (ix3 0 r k) = H (768 + r) k)
    (h4 : ∀ (r : Fin 256) (k : Fin 768), x4 (ix3 0 r k) = H (1024 + r) k)
    (h5 : ∀ (r : Fin 256) (k : Fin 768), x5 (ix3 0 r k) = H (1280 + r) k)
    (h6 : ∀ (r : Fin 256) (k : Fin 768), x6 (ix3 0 r k) = H (1536 + r) k)
    (h7 : ∀ (r : Fin 256) (k : Fin 768), x7 (ix3 0 r k) = H (1792 + r) k)
    (j : Fin 2048) (d : Fin 128) :
    k0_pay42 x0 x1 x2 x3 x4 x5 x6 x7 x8 x9 x10 x11 x12 x13 x14 x15 x16 (ix2 j d)
      = RowSpec.token (H j) (fun k d => x9 (ix2 k d)) (fun d => x10 (ix2 0 d)) (fun d => x13 (ix2 0 d)) (fun d => x14 (ix2 0 d)) d := by
  rw [tokens_eq]
  refine Tok.join_apply _ _ _ _ _ _ _ _ (fun j => RowSpec.token (H j) (fun k d => x9 (ix2 k d)) (fun d => x10 (ix2 0 d)) (fun d => x13 (ix2 0 d)) (fun d => x14 (ix2 0 d))) ?_ ?_ ?_ ?_ ?_ ?_ ?_ ?_ j d
  all_goals intro r d; rw [Tok.tokBlock_apply]; refine congrArg (fun f => RowSpec.token f _ _ _ _ d) (funext fun k => ?_)
  · refine Eq.trans ?_ ((h0 r k).trans (congrArg (H · k) (Nat.zero_add _)))
    pointwise [k0_pay2]
  · refine Eq.trans ?_ (h1 r k)
    pointwise [k0_pay3]
  · refine Eq.trans ?_ (h2 r k)
    pointwise [k0_pay4]
  · refine Eq.trans ?_ (h3 r k)
    pointwise [k0_pay5]
  · refine Eq.trans ?_ (h4 r k)
    pointwise [k0_pay6]
  · refine Eq.trans ?_ (h5 r k)
    pointwise [k0_pay7]
  · refine Eq.trans ?_ (h6 r k)
    pointwise [k0_pay8]
  · refine Eq.trans ?_ (h7 r k)
    pointwise [k0_pay9]

/-- The token result's block, read at an index. The parts hold the tokens' features `H`, and the mask's lanes from 1 on are
    `n` ones and then zeros up to lane 2046: row `i` is the window row of the first `n` token rows, the first token left out. -/
theorem reps_apply (H : ℕ → Fin 768 → EReal)
    (h0 : ∀ (r : Fin 256) (k : Fin 768), x0 (ix3 0 r k) = H (0 + r) k)
    (h1 : ∀ (r : Fin 256) (k : Fin 768), x1 (ix3 0 r k) = H (256 + r) k)
    (h2 : ∀ (r : Fin 256) (k : Fin 768), x2 (ix3 0 r k) = H (512 + r) k)
    (h3 : ∀ (r : Fin 256) (k : Fin 768), x3 (ix3 0 r k) = H (768 + r) k)
    (h4 : ∀ (r : Fin 256) (k : Fin 768), x4 (ix3 0 r k) = H (1024 + r) k)
    (h5 : ∀ (r : Fin 256) (k : Fin 768), x5 (ix3 0 r k) = H (1280 + r) k)
    (h6 : ∀ (r : Fin 256) (k : Fin 768), x6 (ix3 0 r k) = H (1536 + r) k)
    (h7 : ∀ (r : Fin 256) (k : Fin 768), x7 (ix3 0 r k) = H (1792 + r) k)
    {n : ℕ} (hn : n ≤ 2046)
    (h8 : ∀ (s : ℕ) (h : s < 2046), x8 (ix3 0 0 ⟨s + 1, by omega⟩) = if s < n then 1#32 else 0#32)
    (i : Fin 2046) (d : Fin 128) :
    out0_18 x0 x1 x2 x3 x4 x5 x6 x7 x8 x9 x10 x11 x12 x13 x14 x15 x16 (ix3 0 i d)
      = Window.kernelRow (fun j => RowSpec.token (H (j + 1)) (fun k d => x9 (ix2 k d)) (fun d => x10 (ix2 0 d)) (fun d => x13 (ix2 0 d)) (fun d => x14 (ix2 0 d))) n i d := by
  unfold out0_18
  rw [View.canon_unit_zero zero3]
  rw [Win.block_apply _ _ hn]
  · refine Window.kernelRow_congr (fun j hj => funext fun d => ?_) i d
    unfold Win.rowAfter
    rw [dif_pos (by omega), tokens_apply x0 x1 x2 x3 x4 x5 x6 x7 x8 x9 x10 x11 x12 x13 x14 x15 x16 H h0 h1 h2 h3 h4 h5 h6 h7]
  · intro s hs
    refine Eq.trans ?_ (h8 s hs)
    unfold k0_pay43
    rw [View.ld_unit_zero zero3]
    pointwise [k0_pay34]

/-- The first token's result block, read at an index. -/
theorem cls_apply (d : Fin 768) :
    out0_17 x0 x1 x2 x3 x4 x5 x6 x7 x8 x9 x10 x11 x12 x13 x14 x15 x16 (ix3 0 0 d)
      = RowSpec.cls (fun k => x0 (ix3 0 0 k)) (fun k d => x11 (ix2 k d)) (fun d => x12 (ix2 0 d)) (fun d => x15 (ix2 0 d)) (fun d => x16 (ix2 0 d)) d := by
  unfold out0_17
  rw [View.canon_unit_zero zero3]
  simp only [ld_0, ld_1, ld_2, ld_4, ld_5]
  pointwise [k0_pay12, k0_pay11, k0_pay10, k0_pay2]
  rfl

end Cert.KernelIdeal.Block

end
-- ==== Proof.KArr.lean ====
/-
  The kernel's two result arrays after its run, from the contents of its arguments: the blocks that the grid points read are
  pieces of the arguments, and the blocks that they leave tile the results.
-/
module

public import proofs.«01_k».proof.Proof.KBlock
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen

/-! Which block each window takes at each grid point. -/

/-- The block of the features, first eighth taken at each grid point. -/
theorem idx0 : ∀ t : Fin cfg0.N, win0_0.index t = ![t.val, 0, 0] := (by decide +kernel : ∀ t : Fin grid0.N, win0_0.index t = ![t.val, 0, 0])

/-- The block of the features, second eighth taken at each grid point. -/
theorem idx1 : ∀ t : Fin cfg0.N, win0_1.index t = ![t.val, 1, 0] := (by decide +kernel : ∀ t : Fin grid0.N, win0_1.index t = ![t.val, 1, 0])

/-- The block of the features, third eighth taken at each grid point. -/
theorem idx2 : ∀ t : Fin cfg0.N, win0_2.index t = ![t.val, 2, 0] := (by decide +kernel : ∀ t : Fin grid0.N, win0_2.index t = ![t.val, 2, 0])

/-- The block of the features, fourth eighth taken at each grid point. -/
theorem idx3 : ∀ t : Fin cfg0.N, win0_3.index t = ![t.val, 3, 0] := (by decide +kernel : ∀ t : Fin grid0.N, win0_3.index t = ![t.val, 3, 0])

/-- The block of the features, fifth eighth taken at each grid point. -/
theorem idx4 : ∀ t : Fin cfg0.N, win0_4.index t = ![t.val, 4, 0] := (by decide +kernel : ∀ t : Fin grid0.N, win0_4.index t = ![t.val, 4, 0])

/-- The block of the features, sixth eighth taken at each grid point. -/
theorem idx5 : ∀ t : Fin cfg0.N, win0_5.index t = ![t.val, 5, 0] := (by decide +kernel : ∀ t : Fin grid0.N, win0_5.index t = ![t.val, 5, 0])

/-- The block of the features, seventh eighth taken at each grid point. -/
theorem idx6 : ∀ t : Fin cfg0.N, win0_6.index t = ![t.val, 6, 0] := (by decide +kernel : ∀ t : Fin grid0.N, win0_6.index t = ![t.val, 6, 0])

/-- The block of the features, last eighth taken at each grid point. -/
theorem idx7 : ∀ t : Fin cfg0.N, win0_7.index t = ![t.val, 7, 0] := (by decide +kernel : ∀ t : Fin grid0.N, win0_7.index t = ![t.val, 7, 0])

/-- The block of the mask taken at each grid point. -/
theorem idx8 : ∀ t : Fin cfg0.N, win0_8.index t = ![t.val, 0, 0] := (by decide +kernel : ∀ t : Fin grid0.N, win0_8.index t = ![t.val, 0, 0])

/-- The block of the token weights taken at each grid point. -/
theorem idx9 : ∀ t : Fin cfg0.N, win0_9.index t = ![0, 0] := (by decide +kernel : ∀ t : Fin grid0.N, win0_9.index t = ![0, 0])

/-- The block of the token bias taken at each grid point. -/
theorem idx10 : ∀ t : Fin cfg0.N, win0_10.index t = ![0, 0] := (by decide +kernel : ∀ t : Fin grid0.N, win0_10.index t = ![0, 0])

/-- The block of the first token's weights taken at each grid point. -/
theorem idx11 : ∀ t : Fin cfg0.N, win0_11.index t = ![0, 0] := (by decide +kernel : ∀ t : Fin grid0.N, win0_11.index t = ![0, 0])

/-- The block of the first token's bias taken at each grid point. -/
theorem idx12 : ∀ t : Fin cfg0.N, win0_12.index t = ![0, 0] := (by decide +kernel : ∀ t : Fin grid0.N, win0_12.index t = ![0, 0])

/-- The block of the token gain taken at each grid point. -/
theorem idx13 : ∀ t : Fin cfg0.N, win0_13.index t = ![0, 0] := (by decide +kernel : ∀ t : Fin grid0.N, win0_13.index t = ![0, 0])

/-- The block of the token shift taken at each grid point. -/
theorem idx14 : ∀ t : Fin cfg0.N, win0_14.index t = ![0, 0] := (by decide +kernel : ∀ t : Fin grid0.N, win0_14.index t = ![0, 0])

/-- The block of the first token's gain taken at each grid point. -/
theorem idx15 : ∀ t : Fin cfg0.N, win0_15.index t = ![0, 0] := (by decide +kernel : ∀ t : Fin grid0.N, win0_15.index t = ![0, 0])

/-- The block of the first token's shift taken at each grid point. -/
theorem idx16 : ∀ t : Fin cfg0.N, win0_16.index t = ![0, 0] := (by decide +kernel : ∀ t : Fin grid0.N, win0_16.index t = ![0, 0])

/-- The block of the first result taken at each grid point. -/
theorem idx17 : ∀ t : Fin cfg0.N, win0_17.index t = ![t.val, 0, 0] := (by decide +kernel : ∀ t : Fin grid0.N, win0_17.index t = ![t.val, 0, 0])

/-- The block of the second result taken at each grid point. -/
theorem idx18 : ∀ t : Fin cfg0.N, win0_18.index t = ![t.val, 0, 0] := (by decide +kernel : ∀ t : Fin grid0.N, win0_18.index t = ![t.val, 0, 0])

/-- A grid point is a sequence's number. -/
theorem lt (t : Fin cfg0.N) : (t : ℕ) < 32 := lt_of_lt_of_eq t.isLt N_0

variable (m : (ℓ : Loc nD τ sig) → Buf (Elt Ideal) ℓ) (c : Dev nD)

/-- The features of token `j` of sequence `b`, zero past the last token or sequence. -/
def feat (b j : ℕ) (k : Fin 768) : EReal :=
  if h : b < 32 ∧ j < 2048 then m ((c : Thread nD τ).loc main_arg0) (ix3 ⟨b, h.1⟩ ⟨j, h.2⟩ k) else 0

/-- The features at a real place are the argument's. -/
theorem feat_eq {b j : ℕ} (hb : b < 32) (hj : j < 2048) (k : Fin 768) :
    feat m c b j k = m ((c : Thread nD τ).loc main_arg0) (ix3 ⟨b, hb⟩ ⟨j, hj⟩ k) := dif_pos ⟨hb, hj⟩

/-! Every block that a grid point reads, as a piece of an argument. -/

/-- What a grid point reads of the features, first eighth. -/
theorem read0 (t : Fin cfg0.N) (r : Fin 256) (k : Fin 768) : iblk m c 0 t (ix3 0 r k) = feat m c t (0 + r) k := by
  rw [feat_eq m c (lt t) (show 0 + (r : ℕ) < 2048 by omega)]
  blk_ext [iblk, V, idx0 t]

/-- What a grid point reads of the features, second eighth. -/
theorem read1 (t : Fin cfg0.N) (r : Fin 256) (k : Fin 768) : iblk m c 1 t (ix3 0 r k) = feat m c t (256 + r) k := by
  rw [feat_eq m c (lt t) (show 256 + (r : ℕ) < 2048 by omega)]
  blk_ext [iblk, V, idx1 t]

/-- What a grid point reads of the features, third eighth. -/
theorem read2 (t : Fin cfg0.N) (r : Fin 256) (k : Fin 768) : iblk m c 2 t (ix3 0 r k) = feat m c t (512 + r) k := by
  rw [feat_eq m c (lt t) (show 512 + (r : ℕ) < 2048 by omega)]
  blk_ext [iblk, V, idx2 t]

/-- What a grid point reads of the features, fourth eighth. -/
theorem read3 (t : Fin cfg0.N) (r : Fin 256) (k : Fin 768) : iblk m c 3 t (ix3 0 r k) = feat m c t (768 + r) k := by
  rw [feat_eq m c (lt t) (show 768 + (r : ℕ) < 2048 by omega)]
  blk_ext [iblk, V, idx3 t]

/-- What a grid point reads of the features, fifth eighth. -/
theorem read4 (t : Fin cfg0.N) (r : Fin 256) (k : Fin 768) : iblk m c 4 t (ix3 0 r k) = feat m c t (1024 + r) k := by
  rw [feat_eq m c (lt t) (show 1024 + (r : ℕ) < 2048 by omega)]
  blk_ext [iblk, V, idx4 t]

/-- What a grid point reads of the features, sixth eighth. -/
theorem read5 (t : Fin cfg0.N) (r : Fin 256) (k : Fin 768) : iblk m c 5 t (ix3 0 r k) = feat m c t (1280 + r) k := by
  rw [feat_eq m c (lt t) (show 1280 + (r : ℕ) < 2048 by omega)]
  blk_ext [iblk, V, idx5 t]

/-- What a grid point reads of the features, seventh eighth. -/
theorem read6 (t : Fin cfg0.N) (r : Fin 256) (k : Fin 768) : iblk m c 6 t (ix3 0 r k) = feat m c t (1536 + r) k := by
  rw [feat_eq m c (lt t) (show 1536 + (r : ℕ) < 2048 by omega)]
  blk_ext [iblk, V, idx6 t]

/-- What a grid point reads of the features, last eighth. -/
theorem read7 (t : Fin cfg0.N) (r : Fin 256) (k : Fin 768) : iblk m c 7 t (ix3 0 r k) = feat m c t (1792 + r) k := by
  rw [feat_eq m c (lt t) (show 1792 + (r : ℕ) < 2048 by omega)]
  blk_ext [iblk, V, idx7 t]

/-- What a grid point reads of the mask. -/
theorem read8 (t : Fin cfg0.N) (s : Fin 2048) : iblk m c 8 t (ix3 0 0 s) = m ((c : Thread nD τ).loc main_arg1) (ix2 ⟨t, lt t⟩ s) := by
  blk_ext! [iblk, V, idx8 t]

/-- What a grid point reads of the token weights. -/
theorem read9 (t : Fin cfg0.N) (k : Fin 768) (d : Fin 128) : iblk m c 9 t (ix2 k d) = m ((c : Thread nD τ).loc main_arg2) (ix2 k d) := by
  blk_ext [iblk, V, idx9 t]

/-- What a grid point reads of the first token's weights. -/
theorem read11 (t : Fin cfg0.N) (k d : Fin 768) : iblk m c 11 t (ix2 k d) = m ((c : Thread nD τ).loc main_arg4) (ix2 k d) := by
  blk_ext [iblk, V, idx11 t]

/-- What a grid point reads of the token bias. -/
theorem read10 (t : Fin cfg0.N) (d : Fin 128) : iblk m c 10 t (ix2 0 d) = m ((c : Thread nD τ).loc main_arg3) (ix1 d) := by
  blk_ext! [iblk, V, idx10 t]

/-- What a grid point reads of the first token's bias. -/
theorem read12 (t : Fin cfg0.N) (d : Fin 768) : iblk m c 12 t (ix2 0 d) = m ((c : Thread nD τ).loc main_arg5) (ix1 d) := by
  blk_ext! [iblk, V, idx12 t]

/-- What a grid point reads of the token gain. -/
theorem read13 (t : Fin cfg0.N) (d : Fin 128) : iblk m c 13 t (ix2 0 d) = m ((c : Thread nD τ).loc main_arg6) (ix1 d) := by
  blk_ext! [iblk, V, idx13 t]

/-- What a grid point reads of the token shift. -/
theorem read14 (t : Fin cfg0.N) (d : Fin 128) : iblk m c 14 t (ix2 0 d) = m ((c : Thread nD τ).loc main_arg7) (ix1 d) := by
  blk_ext! [iblk, V, idx14 t]

/-- What a grid point reads of the first token's gain. -/
theorem read15 (t : Fin cfg0.N) (d : Fin 768) : iblk m c 15 t (ix2 0 d) = m ((c : Thread nD τ).loc main_arg8) (ix1 d) := by
  blk_ext! [iblk, V, idx15 t]

/-- What a grid point reads of the first token's shift. -/
theorem read16 (t : Fin cfg0.N) (d : Fin 768) : iblk m c 16 t (ix2 0 d) = m ((c : Thread nD τ).loc main_arg9) (ix1 d) := by
  blk_ext! [iblk, V, idx16 t]

/-- The token row of token `j` of sequence `b`. -/
def tok (b j : ℕ) : Fin 128 → EReal :=
  RowSpec.token (feat m c b j) (fun k d => m ((c : Thread nD τ).loc main_arg2) (ix2 k d)) (fun d => m ((c : Thread nD τ).loc main_arg3) (ix1 d))
    (fun d => m ((c : Thread nD τ).loc main_arg6) (ix1 d)) (fun d => m ((c : Thread nD τ).loc main_arg7) (ix1 d))

/-- The first token's row of sequence `b`. -/
def first (b : ℕ) : Fin 768 → EReal :=
  RowSpec.cls (feat m c b 0) (fun k d => m ((c : Thread nD τ).loc main_arg4) (ix2 k d)) (fun d => m ((c : Thread nD τ).loc main_arg5) (ix1 d))
    (fun d => m ((c : Thread nD τ).loc main_arg8) (ix1 d)) (fun d => m ((c : Thread nD τ).loc main_arg9) (ix1 d))

/-- What the kernel leaves in its first result: the first tokens' rows. -/
def clsArr : Buf (Elt Ideal) ((c : Thread nD τ).loc main_v7_0) := fun y => first m c (y 0) (y 2)

/-- What the kernel leaves in its second result, `n b` being the number of kept tokens of sequence `b`: the window rows. -/
def repsArr (n : ℕ → ℕ) : Buf (Elt Ideal) ((c : Thread nD τ).loc main_v7_1) :=
  fun y => Window.kernelRow (fun j => tok m c (y 0) (j + 1)) (n (y 0)) (y 1) (y 2)

/-- The first result array after the run. -/
theorem cls_arr : (dats m 0 c).arrAt 17 cfg0.N = clsArr m c := by
  refine (dats m 0 c).arrAt_eq_of_covers 17 _ (by decide +kernel) fun t hf y => ?_
  obtain ⟨d, rfl⟩ : ∃ d : Fin 768, y = ix3 0 0 d :=
    ⟨y 2, funext fun a => by fin_cases a <;> first | rfl | exact Subsingleton.elim (α := Fin 1) _ _⟩
  have e0 : (((((cfg0.win 17).blk t).view.emb (ix3 0 0 d)) 0 : Fin 32) : ℕ) = t := by blk_simp [idx17 t]; rfl
  have e2 : ((((cfg0.win 17).blk t).view.emb (ix3 0 0 d)) 2 : Fin 768) = d := Fin.ext (by blk_simp [idx17 t])
  refine Eq.trans (b := first m c t d) ?_ (congr (congrArg (first m c) e0.symm) e2.symm)
  blk_simp
  rw [after0_17, Block.cls_apply]
  unfold first
  congr 1
  · exact funext fun k => read0 m c t 0 k
  · exact funext fun k => funext fun d => read11 m c t k d
  · exact funext fun d => read12 m c t d
  · exact funext fun d => read15 m c t d
  · exact funext fun d => read16 m c t d

/-- The second result array after the run, where every sequence's mask is, between its first and last lane, `n b` ones and then
    zeros. -/
theorem reps_arr (n : ℕ → ℕ) (hn : ∀ b, n b ≤ 2046)
    (hm : ∀ (b : Fin 32) (s : ℕ) (h : s < 2046),
      m ((c : Thread nD τ).loc main_arg1) (ix2 b ⟨s + 1, by omega⟩) = if s < n b then 1#32 else 0#32) :
    (dats m 0 c).arrAt 18 cfg0.N = repsArr m c n := by
  refine (dats m 0 c).arrAt_eq_of_covers 18 _ (by decide +kernel) fun t hf y => ?_
  obtain ⟨i, d, rfl⟩ : ∃ (i : Fin 2046) (d : Fin 128), y = ix3 0 i d :=
    ⟨y 1, y 2, funext fun a => by fin_cases a <;> first | rfl | exact Subsingleton.elim (α := Fin 1) _ _⟩
  have e0 : (((((cfg0.win 18).blk t).view.emb (ix3 0 i d)) 0 : Fin 32) : ℕ) = t := by blk_simp [idx18 t]; rfl
  have e1 : (((((cfg0.win 18).blk t).view.emb (ix3 0 i d)) 1 : Fin 2046) : ℕ) = i := by blk_simp [idx18 t]
  have e2 : ((((cfg0.win 18).blk t).view.emb (ix3 0 i d)) 2 : Fin 128) = d := Fin.ext (by blk_simp [idx18 t])
  refine Eq.trans (b := Window.kernelRow (fun j => tok m c t (j + 1)) (n t) i d) ?_
    (congr (congr (congr (congrArg (fun b => Window.kernelRow fun j => tok m c b (j + 1)) e0.symm) (congrArg n e0.symm)) e1.symm) e2.symm)
  blk_simp
  rw [after0_18, Block.reps_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (feat m c t) (read0 m c t) (read1 m c t) (read2 m c t) (read3 m c t) (read4 m c t) (read5 m c t) (read6 m c t) (read7 m c t) (hn t)
    fun s h => (read8 m c t _).trans (hm ⟨t, lt t⟩ s h)]
  unfold tok
  congr 1
  refine funext fun j => ?_
  congr 1
  · exact funext fun k => funext fun d => read9 m c t k d
  · exact funext fun d => read10 m c t d
  · exact funext fun d => read13 m c t d
  · exact funext fun d => read14 m c t d

end Cert.KernelIdeal.Arr

end
-- ==== Proof.RefTok.lean ====
/-
  The reference's token rows and first tokens' rows, read at an index.
-/
module

public import proofs.«01_k».proof.Proof.Gen.ReferenceIdeal.Run
public import proofs.«01_k».proof.Proof.RowSpec
public import Idealize.ShloMosaic.Lib.Pointwise

@[expose] public section

set_option maxRecDepth 16384

noncomputable section

open Idealize.ShloMosaic

namespace Cert.ReferenceIdeal.Tok

open Cert.ReferenceIdeal Cert.ReferenceIdeal.Gen

/-- The affine map of every token. -/
def aff (h : FVec Ideal S32x2048x768 .f32) (w : FVec Ideal S768x128 .f32) (b : FVec Ideal S128 .f32) : FVec Ideal S32x2048x128 .f32 :=
  addf (Host.dotGeneral dot_S32x2048x768_S768x128_S32x2048x128_2_0_01_1_n_n none h w)
    (broadcastInDim S32x2048x128 ![0, 1, 2] bcast_S1x1x128_S32x2048x128_0_1_2 (broadcastInDim S1x1x128 ![2] bcast_S128_S1x1x128_2 b))

/-- The mean of every row. -/
def avg (x : FVec Ideal S32x2048x128 .f32) : FVec Ideal S32x2048x1 .f32 :=
  Host.divf (broadcastInDim S32x2048x1 ![0, 1] bcast_S32x2048_S32x2048x1_0_1 (Host.reduceAdd x (constant S_ .f32 0x00000000#32) reducesTo_S32x2048x128_S32x2048_d2 h_S_))
    (broadcastInDim S32x2048x1 ![] bcast_S_S32x2048x1 (constant S_ .f32 0x43000000#32))

/-- Every row less its mean. -/
def dev (x : FVec Ideal S32x2048x128 .f32) : FVec Ideal S32x2048x128 .f32 :=
  subf x (broadcastInDim S32x2048x128 ![0, 1, 2] bcast_S32x2048x1_S32x2048x128_0_1_2 (avg x))

/-- The square root of every row's variance plus a small constant. -/
def scale (x : FVec Ideal S32x2048x128 .f32) : FVec Ideal S32x2048x1 .f32 :=
  Host.sqrt (addf (avg (mulf (dev x) (dev x))) (broadcastInDim S32x2048x1 ![] bcast_S_S32x2048x1 (constant S_ .f32 0x3727C5AC#32)))

/-- A row of gains or offsets, for every token. -/
def spread (g : FVec Ideal S128 .f32) : FVec Ideal S32x2048x128 .f32 :=
  broadcastInDim S32x2048x128 ![0, 1, 2] bcast_S1x1x128_S32x2048x128_0_1_2 (broadcastInDim S1x1x128 ![2] bcast_S128_S1x1x128_2 g)

/-- The token rows. -/
def rows (x : FVec Ideal S32x2048x128 .f32) (g be : FVec Ideal S128 .f32) : FVec Ideal S32x2048x128 .f32 :=
  maximumf (addf (mulf (Host.divf (dev x) (broadcastInDim S32x2048x128 ![0, 1, 2] bcast_S32x2048x1_S32x2048x128_0_1_2 (scale x))) (spread g)) (spread be))
    (broadcastInDim S32x2048x128 ![] bcast_S_S32x2048x128 (constant S_ .f32 0x00000000#32))

/-- The token rows, read at an index: the token row of the mathematics. -/
theorem rows_apply (h : FVec Ideal S32x2048x768 .f32) (w : FVec Ideal S768x128 .f32) (bi g be : FVec Ideal S128 .f32) (b : Fin 32) (j : Fin 2048) (d : Fin 128) :
    rows (aff h w bi) g be (ix3 b j d)
      = RowSpec.token (fun k => h (ix3 b j k)) (fun k d => w (ix2 k d)) (fun d => bi (ix1 d)) (fun d => g (ix1 d)) (fun d => be (ix1 d)) d := by
  have e : ∀ d, aff h w bi (ix3 b j d) = RowSpec.affine (fun k => h (ix3 b j k)) (fun k d => w (ix2 k d)) (fun d => bi (ix1 d)) d := fun d => by
    pointwise [aff]
    rfl
  pointwise [rows, spread, scale, avg, dev]
  simp only [e]
  unfold RowSpec.token
  rw [RowSpec.lnorm_div RowSpec.c128_pos]
  rfl

/-- The affine map of every first token. -/
def clsAff (h : FVec Ideal S32x2048x768 .f32) (w : FVec Ideal S768x768 .f32) (b : FVec Ideal S768 .f32) : FVec Ideal S32x768 .f32 :=
  addf (Host.dotGeneral dot_S32x768_S768x768_S32x768_1_0_0_1_n_n none (shapeCast _ (extractStridedSlice S32x1x768 ![0, 0, 0] h slices_S32x2048x768_S32x1x768_0_0_0) shapeCasts_S32x1x768_S32x768) w)
    (broadcastInDim S32x768 ![0, 1] bcast_S1x768_S32x768_0_1 (broadcastInDim S1x768 ![1] bcast_S768_S1x768_1 b))

/-- The mean of every row. -/
def clsAvg (x : FVec Ideal S32x768 .f32) : FVec Ideal S32x1 .f32 :=
  Host.divf (broadcastInDim S32x1 ![0] bcast_S32_S32x1_0 (Host.reduceAdd x (constant S_ .f32 0x00000000#32) reducesTo_S32x768_S32_d1 h_S_))
    (broadcastInDim S32x1 ![] bcast_S_S32x1 (constant S_ .f32 0x44400000#32))

/-- Every row less its mean. -/
def clsDev (x : FVec Ideal S32x768 .f32) : FVec Ideal S32x768 .f32 :=
  subf x (broadcastInDim S32x768 ![0, 1] bcast_S32x1_S32x768_0_1 (clsAvg x))

/-- The first tokens' rows. -/
def cls (x : FVec Ideal S32x768 .f32) (g be : FVec Ideal S768 .f32) : FVec Ideal S32x1x768 .f32 :=
  broadcastInDim S32x1x768 ![0, 2] bcast_S32x768_S32x1x768_0_2
    (addf (mulf (Host.divf (clsDev x) (broadcastInDim S32x768 ![0, 1] bcast_S32x1_S32x768_0_1
          (Host.sqrt (addf (clsAvg (mulf (clsDev x) (clsDev x))) (broadcastInDim S32x1 ![] bcast_S_S32x1 (constant S_ .f32 0x3727C5AC#32))))))
        (broadcastInDim S32x768 ![0, 1] bcast_S1x768_S32x768_0_1 (broadcastInDim S1x768 ![1] bcast_S768_S1x768_1 g)))
      (broadcastInDim S32x768 ![0, 1] bcast_S1x768_S32x768_0_1 (broadcastInDim S1x768 ![1] bcast_S768_S1x768_1 be)))

/-- The first tokens' rows, read at an index: the first token's row of the mathematics. -/
theorem cls_apply (h : FVec Ideal S32x2048x768 .f32) (w : FVec Ideal S768x768 .f32) (bi g be : FVec Ideal S768 .f32) (b : Fin 32) (a : Fin 1) (d : Fin 768) :
    cls (clsAff h w bi) g be (ix3 b a d)
      = RowSpec.cls (fun k => h (ix3 b 0 k)) (fun k d => w (ix2 k d)) (fun d => bi (ix1 d)) (fun d => g (ix1 d)) (fun d => be (ix1 d)) d := by
  have e : ∀ d, clsAff h w bi (ix2 b d) = RowSpec.affine (fun k => h (ix3 b 0 k)) (fun k d => w (ix2 k d)) (fun d => bi (ix1 d)) d := fun d => by
    pointwise [clsAff]
    rfl
  pointwise [cls, clsAvg, clsDev]
  simp only [e]
  unfold RowSpec.cls
  rw [RowSpec.lnorm_div RowSpec.c768_pos]
  rfl

end Cert.ReferenceIdeal.Tok

end
-- ==== Proof.RefScan.lean ====
/-
  The reference's running sums of token rows and the rows of them that it takes out at given places, read at an index.
-/
module

public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic

namespace Cert.ReferenceIdeal.Scan

open Cert.ReferenceIdeal Cert.ReferenceIdeal.Gen

/-- A row number below 2047, read as a signed word and clamped to the last row, is itself. -/
theorem clamp {k : ℕ} (hk : k < 2047) : min (BitVec.ofNat 32 k).toInt.toNat 2046 = k := by
  rw [WordCmp.toInt_ofNat_of_lt (by omega)]; omega

/-- The rows taken out at one list of row numbers for all sequences, read at an index. -/
theorem take_apply (x : FVec Ideal S32x2047x128 .f32) (idx : IVec S2046x1 32) (b : Fin 32) (i : Fin 2046) (e : Fin 128) (k : Fin 2047)
    (hk : idx (ix2 i 0) = BitVec.ofNat 32 k) :
    Host.gather gather_S32x2047x128_S2046x1_S32x2046x128_02_1_n_n_1_1_321128 x idx (ix3 b i e) = x (ix3 b k e) := by
  unfold Host.gather
  refine congrArg x (funext fun a => Fin.ext ?_)
  match a with
  | ⟨0, _⟩ => exact Nat.zero_add _
  | ⟨1, _⟩ =>
    have hc := clamp k.isLt
    rw [← hk] at hc
    refine Eq.trans ?_ hc
    show min _ 2046 = _
    refine congrArg (fun v => min (BitVec.toInt (idx v)).toNat 2046) ?_
    funext a; fin_cases a <;> rfl
  | ⟨2, _⟩ => exact Nat.zero_add _

/-- The rows taken out at one list of row numbers per sequence, read at an index. -/
theorem takeEach_apply (x : FVec Ideal S32x2047x128 .f32) (idx : IVec S32x2046x1 32) (b : Fin 32) (i : Fin 2046) (e : Fin 128) (k : Fin 2047)
    (hk : idx (ix3 b i 0) = BitVec.ofNat 32 k) :
    Host.gather gather_S32x2047x128_S32x2046x1_S32x2046x128_2_1_0_0_1_2_11128 x idx (ix3 b i e) = x (ix3 b k e) := by
  unfold Host.gather
  refine congrArg x (funext fun a => Fin.ext ?_)
  match a with
  | ⟨0, _⟩ => exact Nat.zero_add _
  | ⟨1, _⟩ =>
    have hc := clamp k.isLt
    rw [← hk] at hc
    refine Eq.trans ?_ hc
    show min _ 2046 = _
    refine congrArg (fun v => min (BitVec.toInt (idx v)).toNat 2046) ?_
    funext a; fin_cases a <;> rfl
  | ⟨2, _⟩ => exact Nat.zero_add _

/-- Adding up a list from zero on is its sum. -/
theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A sum over the window's places is a sum over its second axis. -/
theorem sum_window (f : ℕ → EReal) :
    ∑ w : (⟨3, ![1, 2046, 1]⟩ : Shape).Idx, f (w 1) = ∑ t : Fin 2046, f t :=
  Fintype.sum_equiv ⟨fun w => (w 1 : Fin 2046), fun t => ix3 0 t 0,
    fun w => funext fun a => by fin_cases a <;> first | rfl | exact Subsingleton.elim (α := Fin 1) _ _, fun t => rfl⟩ _ _ fun w => rfl

/-- The last `j + 1` of 2046 places, counted from the first of them. -/
theorem sum_last (f : ℕ → EReal) {j : ℕ} (hj : j < 2046) :
    ∑ t : Fin 2046, (if 2045 ≤ j + t then f (j + t - 2045) else 0) = ∑ t ∈ Finset.range (j + 1), f t := by
  rw [Fin.sum_univ_eq_sum_range (fun t => if 2045 ≤ j + t then f (j + t - 2045) else 0) 2046, ← Finset.sum_filter]
  refine Finset.sum_nbij' (fun t => j + t - 2045) (fun t => t + 2045 - j) ?_ ?_ ?_ ?_ fun _ _ => rfl
  all_goals intro a ha; simp only [Finset.mem_filter, Finset.mem_range] at ha ⊢; omega

/-- One place of the window that ends at row `j`: the operand's row there, or zero in front of its first row. -/
theorem window_term (x : FVec Ideal S32x2046x128 .f32) (b : Fin 32) (e : Fin 128) (f : ℕ → EReal) (hf : ∀ j : Fin 2046, x (ix3 b j e) = f j)
    (j : Fin 2046) (w : (⟨3, ![1, 2046, 1]⟩ : Shape).Idx) :
    (if hin : ∀ a : Fin 3, (![0, 2045, 0] : Fin 3 → ℕ) a ≤ (ix3 b j e a : ℕ) * (![1, 1, 1] : Fin 3 → ℕ) a + (w a : ℕ)
          ∧ (ix3 b j e a : ℕ) * (![1, 1, 1] : Fin 3 → ℕ) a + (w a : ℕ) - (![0, 2045, 0] : Fin 3 → ℕ) a < S32x2046x128.size a
      then x fun a => ⟨(ix3 b j e a : ℕ) * (![1, 1, 1] : Fin 3 → ℕ) a + (w a : ℕ) - (![0, 2045, 0] : Fin 3 → ℕ) a, (hin a).2⟩ else 0)
      = if 2045 ≤ (j : ℕ) + (w 1 : ℕ) then f (j + (w 1 : ℕ) - 2045) else 0 := by
  have w0 : (w 0 : ℕ) = 0 := Nat.lt_one_iff.1 (w 0).isLt
  have w2 : (w 2 : ℕ) = 0 := Nat.lt_one_iff.1 (w 2).isLt
  have w1 : (w 1 : ℕ) < 2046 := (w 1).isLt
  have hj := j.isLt
  by_cases h : 2045 ≤ (j : ℕ) + (w 1 : ℕ)
  · rw [if_pos h, dif_pos (by
      intro a
      match a with
      | ⟨0, _⟩ => show 0 ≤ (b : ℕ) * 1 + (w 0 : ℕ) ∧ (b : ℕ) * 1 + (w 0 : ℕ) - 0 < 32; omega
      | ⟨1, _⟩ => show 2045 ≤ (j : ℕ) * 1 + (w 1 : ℕ) ∧ (j : ℕ) * 1 + (w 1 : ℕ) - 2045 < 2046; omega
      | ⟨2, _⟩ => show 0 ≤ (e : ℕ) * 1 + (w 2 : ℕ) ∧ (e : ℕ) * 1 + (w 2 : ℕ) - 0 < 128; omega)]
    refine Eq.trans (congrArg x (funext fun a => Fin.ext ?_)) (hf ⟨(j : ℕ) + (w 1 : ℕ) - 2045, by omega⟩)
    match a with
    | ⟨0, _⟩ => show (b : ℕ) * 1 + (w 0 : ℕ) - 0 = b; omega
    | ⟨1, _⟩ => show (j : ℕ) * 1 + (w 1 : ℕ) - 2045 = (j : ℕ) + (w 1 : ℕ) - 2045; omega
    | ⟨2, _⟩ => show (e : ℕ) * 1 + (w 2 : ℕ) - 0 = e; omega
  · rw [if_neg h, dif_neg fun hin => h ?_]
    have h1 : 2045 ≤ (j : ℕ) * 1 + (w 1 : ℕ) := (hin 1).1
    omega

/-- The running sums along the second axis, read at an index: where the rows of sequence `b` are `f`, entry `j` is the sum of
    the first `j + 1` of them. -/
theorem cumsum_apply (x : FVec Ideal S32x2046x128 .f32) (b : Fin 32) (e : Fin 128) (f : ℕ → EReal) (hf : ∀ j : Fin 2046, x (ix3 b j e) = f j)
    (init : FVec Ideal S_ .f32) (hi : ∀ i, init i = 0) (j : Fin 2046) :
    Host.reduceWindowAdd ![1, 2046, 1] ![1, 1, 1] ![0, 2045, 0] ![0, 0, 0] x init reduceWindows_S32x2046x128_S32x2046x128_w1s1p0_0_w2046s1p2045_0_w1s1p0_0 h_S_ (ix3 b j e)
      = ∑ t ∈ Finset.range (j + 1), f t := by
  have hj := j.isLt
  rw [← sum_last f hj, ← sum_window fun t => if 2045 ≤ j + t then f (j + t - 2045) else 0]
  refine (foldl_add _ _ _).trans ?_
  rw [hi, zero_add, ← Equiv.sum_comp (Shape.rowMajor _).symm, ← Fin.sum_univ_def]
  refine Finset.sum_congr rfl fun n _ => ?_
  refine Eq.trans ?_ (window_term x b e f hf j ((Shape.rowMajor (⟨3, ![1, 2046, 1]⟩ : Shape)).symm n))
  exact dite_congr rfl (fun _ => rfl) fun _ => rfl

end Cert.ReferenceIdeal.Scan

end
-- ==== Proof.RefOut.lean ====
/-
  The reference's window rows, read at an index: from token rows and a mask that is a run of ones and then zeros, the row of
  the window's mathematics.
-/
module

public import proofs.«01_k».proof.Proof.RefScan
public import proofs.«01_k».proof.Proof.Window
public import Idealize.ShloMosaic.Lib.StableHlo.Predicate

@[expose] public section

set_option maxRecDepth 16384

noncomputable section

open Idealize.ShloMosaic

namespace Cert.ReferenceIdeal.Out

open Cert.ReferenceIdeal Cert.ReferenceIdeal.Gen

/-- The mask of the tokens between the first and the last. -/
def inner (mask : IVec S32x2048 32) : IVec S32x2046 32 := extractStridedSlice S32x2046 ![0, 1] mask slices_S32x2048_S32x2046_0_1

/-- The number of kept tokens of every sequence. -/
def count (mask : IVec S32x2048 32) : IVec S32 32 :=
  Host.reduce IntOp.addi (inner mask) (constantI S_ 32 0#32) reducesTo_S32x2046_S32_d1 h_S_

/-- The token rows between the first and the last, the dropped ones made zero. -/
def masked (x : FVec Ideal S32x2048x128 .f32) (mask : IVec S32x2048 32) : FVec Ideal S32x2046x128 .f32 :=
  mulf (extractStridedSlice S32x2046x128 ![0, 1, 0] x slices_S32x2048x128_S32x2046x128_0_1_0)
    (broadcastInDim S32x2046x128 ![0, 1, 2] bcast_S32x2046x1_S32x2046x128_0_1_2 (sitofp .f32 (broadcastInDim S32x2046x1 ![0, 1] bcast_S32x2046_S32x2046x1_0_1 (inner mask))))

/-- The running sums, a zero row in front. -/
def running (x : FVec Ideal S32x2046x128 .f32) : FVec Ideal S32x2047x128 .f32 :=
  concatenate S32x2047x128 1 [⟨S32x1x128, (broadcastInDim S32x1x128 ![] bcast_S_S32x1x128 (constant S_ .f32 0x00000000#32))⟩,
    ⟨S32x2046x128, (Host.reduceWindowAdd ![1, 2046, 1] ![1, 1, 1] ![0, 2045, 0] ![0, 0, 0] x (broadcastInDim S_ ![] bcast_S_S_ (constant S_ .f32 0x00000000#32)) reduceWindows_S32x2046x128_S32x2046x128_w1s1p0_0_w2046s1p2045_0_w1s1p0_0 h_S_)⟩]
    concatenates_S32x1x128_S32x2046x128_S32x2047x128_d1

/-- The places of the rows. -/
def places : IVec S2046 32 := iotaInDim S2046 32 0

/-- Where each row's window starts. -/
def starts : IVec S2046 32 :=
  maxsi (subi places (broadcastInDim S2046 ![] bcast_S_S2046 (constantI S_ 32 5#32))) (broadcastInDim S2046 ![] bcast_S_S2046 (constantI S_ 32 0#32))

/-- A vector of one word per row, for every sequence. -/
def forAll (x : IVec S2046 32) : IVec S32x2046 32 :=
  broadcastInDim S32x2046 ![0, 1] bcast_S1x2046_S32x2046_0_1 (broadcastInDim S1x2046 ![1] bcast_S2046_S1x2046_1 x)

/-- A vector of one word per sequence, for every row. -/
def forEach (x : IVec S32 32) : IVec S32x2046 32 :=
  broadcastInDim S32x2046 ![0, 1] bcast_S32x1_S32x2046_0_1 (broadcastInDim S32x1 ![0] bcast_S32_S32x1_0 x)

/-- Where each row's window ends. -/
def ends (L : IVec S32 32) : IVec S32x2046 32 :=
  minsi (forAll (addi places (broadcastInDim S2046 ![] bcast_S_S2046 (constantI S_ 32 5#32)))) (forEach L)

/-- The row numbers of the windows' starts, a negative one counted from the end. -/
def startIdx : IVec S2046x1 32 :=
  broadcastInDim S2046x1 ![0] bcast_S2046_S2046x1_0 (select (cmpi .slt starts (broadcastInDim S2046 ![] bcast_S_S2046 (constantI S_ 32 0#32)))
    (addi starts (broadcastInDim S2046 ![] bcast_S_S2046 (constantI S_ 32 2047#32))) starts)

/-- The row numbers of the windows' ends, a negative one counted from the end. -/
def endIdx (L : IVec S32 32) : IVec S32x2046x1 32 :=
  broadcastInDim S32x2046x1 ![0, 1] bcast_S32x2046_S32x2046x1_0_1 (select (cmpi .slt (ends L) (broadcastInDim S32x2046 ![] bcast_S_S32x2046 (constantI S_ 32 0#32)))
    (addi (ends L) (broadcastInDim S32x2046 ![] bcast_S_S32x2046 (constantI S_ 32 2047#32))) (ends L))

/-- Whether each start's row number is a row's. -/
def inRange : IVec S2046 1 :=
  Host.reduce IntOp.andi (andi (cmpi .sge startIdx (broadcastInDim S2046x1 ![] bcast_S_S2046x1 (constantI S_ 32 0#32)))
    (cmpi .sle startIdx (broadcastInDim S2046x1 ![0, 1] bcast_S1x1_S2046x1_0_1 (broadcastInDim S1x1 ![1] bcast_S1_S1x1_1 (constantI S1 32 2046#32)))))
    (constantI S_ 1 1#1) reducesTo_S2046x1_S2046_d1 h_S_

/-- The running sums at the windows' starts. -/
def atStart (P : FVec Ideal S32x2047x128 .f32) : FVec Ideal S32x2046x128 .f32 :=
  select (broadcastInDim S32x2046x128 ![1] bcast_S2046_S32x2046x128_1 inRange)
    (Host.gather gather_S32x2047x128_S2046x1_S32x2046x128_02_1_n_n_1_1_321128 P startIdx)
    (broadcastInDim S32x2046x128 ![] bcast_S_S32x2046x128 (constant S_ .f32 0x7FC00000#32))

/-- The running sums at the windows' ends. -/
def atEnd (P : FVec Ideal S32x2047x128 .f32) (L : IVec S32 32) : FVec Ideal S32x2046x128 .f32 :=
  Host.gather gather_S32x2047x128_S32x2046x1_S32x2046x128_2_1_0_0_1_2_11128 P (endIdx L)

/-- The numbers of rows in the windows, at least one. -/
def widths (L : IVec S32 32) : IVec S32x2046 32 :=
  maxsi (subi (ends L) (forAll starts)) (broadcastInDim S32x2046 ![] bcast_S_S32x2046 (constantI S_ 32 1#32))

/-- The windows' mean rows, zero at the dropped tokens. -/
def means (P : FVec Ideal S32x2047x128 .f32) (L : IVec S32 32) : FVec Ideal S32x2046x128 .f32 :=
  select (broadcastInDim S32x2046x128 ![0, 1, 2] bcast_S32x2046x1_S32x2046x128_0_1_2 (broadcastInDim S32x2046x1 ![0, 1] bcast_S32x2046_S32x2046x1_0_1 (cmpi .slt (forAll places) (forEach L))))
    (Host.divf (subf (atEnd P L) (atStart P))
      (broadcastInDim S32x2046x128 ![0, 1, 2] bcast_S32x2046x1_S32x2046x128_0_1_2 (broadcastInDim S32x2046x1 ![0, 1] bcast_S32x2046_S32x2046x1_0_1 (sitofp .f32 (widths L)))))
    (broadcastInDim S32x2046x128 ![] bcast_S_S32x2046x128 (id (constant S_ .f32 0x00000000#32)))

/-- The rows' lengths. -/
def lens (x : FVec Ideal S32x2046x128 .f32) : FVec Ideal S32x2046x1 .f32 :=
  Host.sqrt (broadcastInDim S32x2046x1 ![0, 1] bcast_S32x2046_S32x2046x1_0_1 (Host.reduceAdd (mulf x x) (constant S_ .f32 0x00000000#32) reducesTo_S32x2046x128_S32x2046_d2 h_S_))

/-- The rows divided by their lengths, zero where the length is not positive. -/
def unit (x : FVec Ideal S32x2046x128 .f32) : FVec Ideal S32x2046x128 .f32 :=
  select (broadcastInDim S32x2046x128 ![0, 1, 2] bcast_S32x2046x1_S32x2046x128_0_1_2 (cmpf .ogt (lens x) (broadcastInDim S32x2046x1 ![] bcast_S_S32x2046x1 (constant S_ .f32 0x00000000#32))))
    (Host.divf x (broadcastInDim S32x2046x128 ![0, 1, 2] bcast_S32x2046x1_S32x2046x128_0_1_2 (select (cmpf .ogt (lens x) (broadcastInDim S32x2046x1 ![] bcast_S_S32x2046x1 (constant S_ .f32 0x00000000#32)))
      (lens x) (broadcastInDim S32x2046x1 ![] bcast_S_S32x2046x1 (id (constant S_ .f32 0x3F800000#32))))))
    (broadcastInDim S32x2046x128 ![] bcast_S_S32x2046x128 (id (constant S_ .f32 0x00000000#32)))

/-! Words that hold naturals. -/

/-- The signed maximum of two small naturals' words. -/
theorem max_ofNat {a b : ℕ} (ha : a < 2 ^ 31) (hb : b < 2 ^ 31) :
    IntOp.maxsi (BitVec.ofNat 32 a) (BitVec.ofNat 32 b) = BitVec.ofNat 32 (max a b) := by
  have ea := WordCmp.toInt_ofNat_of_lt (w := 32) (a := a) (by omega)
  have eb := WordCmp.toInt_ofNat_of_lt (w := 32) (a := b) (by omega)
  unfold IntOp.maxsi
  simp only [BitVec.slt, ea, eb, decide_eq_true_eq]
  split
  · exact congrArg _ (by omega)
  · exact congrArg _ (by omega)

/-- The signed minimum of two small naturals' words. -/
theorem min_ofNat {a b : ℕ} (ha : a < 2 ^ 31) (hb : b < 2 ^ 31) :
    IntOp.minsi (BitVec.ofNat 32 a) (BitVec.ofNat 32 b) = BitVec.ofNat 32 (min a b) := by
  have ea := WordCmp.toInt_ofNat_of_lt (w := 32) (a := a) (by omega)
  have eb := WordCmp.toInt_ofNat_of_lt (w := 32) (a := b) (by omega)
  unfold IntOp.minsi
  simp only [BitVec.slt, ea, eb, decide_eq_true_eq]
  split
  · exact congrArg _ (by omega)
  · exact congrArg _ (by omega)

/-- The difference of two naturals' words, the second the smaller. -/
theorem sub_ofNat {a b : ℕ} (hb : b ≤ a) (ha : a < 2 ^ 32) :
    IntOp.subi (BitVec.ofNat 32 a) (BitVec.ofNat 32 b) = BitVec.ofNat 32 (a - b) := by
  apply BitVec.eq_of_toNat_eq
  show (BitVec.ofNat 32 a - BitVec.ofNat 32 b).toNat = _
  simp only [BitVec.toNat_sub, BitVec.toNat_ofNat]
  omega

/-- A row number that is no negative word is left as it is. -/
theorem wrap_ofNat {a : ℕ} (ha : a < 2 ^ 31) (x : BitVec 32) :
    Scalar.select (IntOp.cmpi .slt (BitVec.ofNat 32 a) 0#32) x (BitVec.ofNat 32 a) = BitVec.ofNat 32 a := by
  rw [WordCmp.cmpi_slt_ofNat (by omega) (by omega), decide_eq_false (by omega)]
  rfl

/-- A natural's word as a number. -/
theorem sitofp_ofNat {a : ℕ} (ha : a < 2 ^ 31) : (FloatOps.sitofp .f32 (BitVec.ofNat 32 a) : Ideal .f32) = ((a : ℝ) : EReal) := by
  show (((BitVec.ofNat 32 a).toInt : ℝ) : EReal) = _
  rw [WordCmp.toInt_ofNat_of_lt (by omega)]
  simp

section
variable (mask : IVec S32x2048 32) (b : Fin 32) {n : ℕ}
variable (hm : ∀ (s : ℕ) (h : s < 2046), mask (ix2 b ⟨s + 1, by omega⟩) = if s < n then 1#32 else 0#32)
include hm

/-- The mask's lanes after the first. -/
theorem lane (x : Fin 2046) : mask (ix2 b ⟨1 + (x : ℕ), by omega⟩) = if (x : ℕ) < n then 1#32 else 0#32 := by
  rw [← hm x x.isLt]
  exact congrArg (fun s => mask (ix2 b s)) (Fin.ext (Nat.add_comm _ _))

/-- Where a sequence's mask is `n` ones and then zeros, the reference counts `n`. -/
theorem count_apply (hn : n ≤ 2046) : count mask (ix1 b) = BitVec.ofNat 32 n := by
  pointwise [count, inner]
  have hs : ∑ x : Fin 2046, (mask (ix2 b ⟨1 + (x : ℕ), by omega⟩)).toNat = n := by
    have e : ∀ x : Fin 2046, (mask (ix2 b ⟨1 + (x : ℕ), by omega⟩)).toNat = if (x : ℕ) < n then 1 else 0 := fun x => by
      rw [lane mask b hm]; split <;> rfl
    simp only [e]
    rw [Fin.sum_univ_eq_sum_range (fun x => if x < n then 1 else 0) 2046, ← Finset.sum_filter, Finset.sum_const, smul_eq_mul, mul_one]
    have : (Finset.range 2046).filter (fun x => x < n) = Finset.range n := by
      ext x; simp only [Finset.mem_filter, Finset.mem_range]; omega
    rw [this, Finset.card_range]
  apply BitVec.eq_of_toNat_eq
  rw [StableHlo.Predicate.toNat_fold_addi]
  · rw [hs, BitVec.toNat_ofNat]; omega
  · rw [hs]; omega

/-- The masked token rows, read at an index. -/
theorem masked_apply (x : FVec Ideal S32x2048x128 .f32) (j : Fin 2046) (d : Fin 128) :
    masked x mask (ix3 b j d) = x (ix3 b ⟨j + 1, by omega⟩ d) * (if (j : ℕ) < n then 1 else 0) := by
  pointwise [masked, inner]
  rw [lane mask b hm]
  refine congr (congrArg _ (congrArg (fun s => x (ix3 b s d)) (Fin.ext (Nat.add_comm _ _)))) ?_
  split
  · exact (sitofp_ofNat (a := 1) (by omega)).trans (by simp)
  · exact (sitofp_ofNat (a := 0) (by omega)).trans (by simp)
end

/-- The starts of the windows. -/
theorem starts_apply (i : Fin 2046) : starts (ix1 i) = BitVec.ofNat 32 (i - 5) := by
  pointwise [starts, places]
  obtain ⟨i, hi⟩ := i
  show IntOp.maxsi (IntOp.subi (BitVec.ofNat 32 i) (BitVec.ofNat 32 5)) (BitVec.ofNat 32 0) = BitVec.ofNat 32 (i - 5)
  by_cases h : 5 ≤ i
  · rw [sub_ofNat h (by omega), max_ofNat (by omega) (by omega)]
    simp
  · have : i < 5 := by omega
    interval_cases i <;> decide

/-- The row numbers of the windows' starts are the starts. -/
theorem startIdx_apply (i : Fin 2046) : startIdx (ix2 i 0) = BitVec.ofNat 32 (i - 5) := by
  pointwise [startIdx]
  rw [starts_apply]
  exact wrap_ofNat (by omega) _

/-- Every start's row number is a row's. -/
theorem inRange_apply (i : Fin 2046) : inRange (ix1 i) = 1#1 := by
  pointwise [inRange]
  refine Eq.trans (congrArg (fun f => Finset.fold IntOp.andi 1#1 f Finset.univ) (funext fun x => ?_)) (show Finset.fold IntOp.andi 1#1 (fun _ : Fin 1 => 1#1) Finset.univ = 1#1 by decide)
  obtain rfl := Subsingleton.elim x 0
  rw [startIdx_apply]
  show IntOp.andi (IntOp.cmpi .sge (BitVec.ofNat 32 (i - 5)) (BitVec.ofNat 32 0)) (IntOp.cmpi .sle (BitVec.ofNat 32 (i - 5)) (BitVec.ofNat 32 2046)) = 1#1
  rw [WordCmp.cmpi_sge_ofNat (by omega) (by omega), WordCmp.cmpi_sle_ofNat (by omega) (by omega), decide_eq_true (by omega), decide_eq_true (by omega)]
  rfl

/-- The running sums, read at an index: the sum of the rows in front of row `k`. -/
theorem running_apply (x : FVec Ideal S32x2046x128 .f32) (b : Fin 32) (d : Fin 128) (f : ℕ → EReal) (hf : ∀ j : Fin 2046, x (ix3 b j d) = f j) (k : Fin 2047) :
    running x (ix3 b k d) = ∑ t ∈ Finset.range k, f t := by
  pointwise [running]
  have hk := k.isLt
  split
  · next h => rw [show (k : ℕ) = 0 by omega]; rfl
  · next h =>
    refine (Scan.cumsum_apply x b d f hf _ (fun i => ?_) _).trans ?_
    · pointwise
    · exact congrArg (fun m => ∑ t ∈ Finset.range m, f t) (by show (k : ℕ) - 1 + 1 = k; omega)

section
variable (L : IVec S32 32) (b : Fin 32) {n : ℕ} (hn : n ≤ 2046) (hL : L (ix1 b) = BitVec.ofNat 32 n)
include hn hL

/-- The ends of the windows. -/
theorem ends_apply (i : Fin 2046) : ends L (ix2 b i) = BitVec.ofNat 32 (min (i + 5) n) := by
  pointwise [ends, forAll, forEach, places]
  rw [hL, WordCmp.addi_ofNat]
  exact min_ofNat (by omega) (by omega)

/-- The row numbers of the windows' ends are the ends. -/
theorem endIdx_apply (i : Fin 2046) : endIdx L (ix3 b i 0) = BitVec.ofNat 32 (min (i + 5) n) := by
  pointwise [endIdx]
  rw [ends_apply L b hn hL]
  exact wrap_ofNat (by omega) _

/-- The number of rows in a window that starts in front of the last kept row. -/
theorem widths_apply (i : Fin 2046) (hi : (i : ℕ) < n) : widths L (ix2 b i) = BitVec.ofNat 32 (min ((i : ℕ) + 5) n - (i - 5)) := by
  pointwise [widths, forAll]
  rw [ends_apply L b hn hL, starts_apply, sub_ofNat (by omega) (by omega)]
  refine (max_ofNat (b := 1) (by omega) (by omega)).trans (congrArg _ ?_)
  omega

/-- The windows' mean rows, read at an index. -/
theorem means_apply (P : FVec Ideal S32x2047x128 .f32) (S : ℕ → EReal) (d : Fin 128) (hP : ∀ k : Fin 2047, P (ix3 b k d) = S k) (i : Fin 2046) :
    means P L (ix3 b i d) = if (i : ℕ) < n then
      Ideal.div (S (min (i + 5) n) - S (i - 5)) (((min ((i : ℕ) + 5) n - (i - 5) : ℕ) : ℝ) : EReal) else 0 := by
  have hi := i.isLt
  pointwise [means, atStart, places, forAll, forEach]
  rw [hL, inRange_apply, WordCmp.cmpi_slt_ofNat (by omega) (by omega)]
  by_cases h : (i : ℕ) < n
  · rw [if_pos h, decide_eq_true h]
    have e1 : atEnd P L (ix3 b i d) = S (min (i + 5) n) :=
      (Scan.takeEach_apply P (endIdx L) b i d ⟨min (i + 5) n, by omega⟩ (endIdx_apply L b hn hL i)).trans (hP _)
    have e2 : Host.gather gather_S32x2047x128_S2046x1_S32x2046x128_02_1_n_n_1_1_321128 P startIdx (ix3 b i d) = S (i - 5) :=
      (Scan.take_apply P startIdx b i d ⟨i - 5, by omega⟩ (startIdx_apply i)).trans (hP _)
    rw [e1, e2, widths_apply L b hn hL i h, sitofp_ofNat (by omega)]
    rfl
  · rw [if_neg h, decide_eq_false h]
    exact Ideal.ofBits_zero_f32
end

/-- The rows over their lengths, read at an index. -/
theorem unit_apply (x : FVec Ideal S32x2046x128 .f32) (b : Fin 32) (i : Fin 2046) (f : Fin 128 → EReal) (hf : ∀ d, x (ix3 b i d) = f d) (d : Fin 128) :
    unit x (ix3 b i d) = if 0 < Ideal.sqrt (∑ d, f d * f d) then Ideal.div (f d) (Ideal.sqrt (∑ d, f d * f d)) else 0 := by
  pointwise [unit, lens]
  simp only [hf]
  split
  · rfl
  · exact Ideal.ofBits_zero_f32

/-- The place after one of the first 2046 is a token's. -/
theorem succ_lt {j : ℕ} (h : j < 2046) : j + 1 < 2048 := by omega

/-- The reference's window rows, read at an index: where the token rows of sequence `b` after the first are `r`, and its mask
    between the first and the last lane is `n` ones and then zeros, the reference's row of the window's mathematics. -/
theorem out_apply (x : FVec Ideal S32x2048x128 .f32) (mask : IVec S32x2048 32) (b : Fin 32) (r : ℕ → Fin 128 → EReal)
    (hr : ∀ (j : ℕ) (h : j < 2046) (d : Fin 128), x (ix3 b ⟨j + 1, succ_lt h⟩ d) = r j d) {n : ℕ} (hn : n ≤ 2046)
    (hm : ∀ (s : ℕ) (h : s < 2046), mask (ix2 b ⟨s + 1, succ_lt h⟩) = if s < n then 1#32 else 0#32) (i : Fin 2046) (d : Fin 128) :
    unit (means (running (masked x mask)) (count mask)) (ix3 b i d) = Window.referenceRow r n i d := by
  refine unit_apply _ b i (Window.meanRow r n i) (fun d => ?_) d
  exact means_apply (count mask) b hn (count_apply mask b hm hn) _ (fun k => Window.prefixSum r n k d) d
    (fun k => running_apply _ b d (fun j => r j d * if j < n then 1 else 0)
      (fun j => by rw [masked_apply mask b hm, hr j j.isLt]) k) i

end Cert.ReferenceIdeal.Out

end
-- ==== Proof.RefRun.lean ====
/-
  The reference's run, its two results stated by the small parts: the first token's rows, and the window rows of the other
  tokens.
-/
module

public import proofs.«01_k».proof.Proof.RefTok
public import proofs.«01_k».proof.Proof.RefOut
public import proofs.«01_k».proof.Proof.Gen.ReferenceIdeal.Run

@[expose] public section

set_option maxRecDepth 16384

noncomputable section

open Idealize.ShloMosaic Idealize.SL.Sem

namespace Cert.ReferenceIdeal.Whole

open Cert.ReferenceIdeal Cert.ReferenceIdeal.Gen Cert.ReferenceIdeal.Value

/-- The reference's first result, from its arguments. -/
def clsOut (h : FVec Ideal S32x2048x768 .f32) (w : FVec Ideal S768x768 .f32) (b g be : FVec Ideal S768 .f32) : FVec Ideal S32x1x768 .f32 :=
  Tok.cls (Tok.clsAff h w b) g be

/-- The reference's second result, from its arguments. -/
def repsOut (h : FVec Ideal S32x2048x768 .f32) (mask : IVec S32x2048 32) (w : FVec Ideal S768x128 .f32) (b g be : FVec Ideal S128 .f32) : FVec Ideal S32x2046x128 .f32 :=
  Out.unit (Out.means (Out.running (Out.masked (Tok.rows (Tok.aff h w b) g be) mask)) (Out.count mask))

variable (m : (ℓ : Loc nD τ sig) → Buf (Elt Ideal) ℓ) (ρ : Dev nD → PrngReg)

/-- From any memory the reference ends with its two results in place and its arguments unchanged. -/
theorem run : θ_run defs (onTc (τ := τ) (main (F := Ideal))) ⟨m, fun _ => 0, ρ⟩ fun r => ∀ c : Dev nD,
      r.2.mem ((c.tc : Thread nD τ).loc main_v115) = clsOut (m ((c.tc : Thread nD τ).loc main_arg0)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_v114) = repsOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Value.run m ρ

/-- From any memory the reference ends with its arguments unchanged and every counter at zero. -/
theorem frame : θ_run defs (onTc (τ := τ) (main (F := Ideal))) ⟨m, fun _ => 0, ρ⟩ fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 := by
  refine (θ_run defs _ _).mono (fun r h => ⟨fun c => (h c).2.2, sem_eq_zero_of_no_sems (by decide) r.2⟩) (Value.run m ρ)

end Cert.ReferenceIdeal.Whole

end
-- ==== Proof.Equation.lean ====
/-
  The equation: on the same arguments the kernel's two result arrays are the reference's.
-/
module

public import proofs.«01_k».proof.Proof.KArr
public import proofs.«01_k».proof.Proof.RefRun

@[expose] public section

set_option maxRecDepth 16384

noncomputable section

open Idealize.ShloMosaic Idealize.ShloMosaic.TcCoe Idealize.SL.Sem

namespace Cert.Equation

open Cert.KernelIdeal Cert.KernelIdeal.Gen

variable (m : (ℓ : Loc nD τ sig) → Buf (Elt Ideal) ℓ) (c : Dev nD)

/-- The token rows, in either of the two ways the window's mathematics can handle: every coordinate real, or some coordinate
    `⊤` in every row. -/
theorem tok_cases (hg : ∀ d : Fin 128, RowSpec.IsReal (m ((c : Thread nD τ).loc main_arg6) (ix1 d))) (b : ℕ) (L : ℕ) :
    (∀ j < L, ∀ d, RowSpec.IsReal (Arr.tok m c b (j + 1) d)) ∨ ∃ e, ∀ j < L, Arr.tok m c b (j + 1) e = ⊤ := by
  by_cases h : ∃ e : Fin 128, m ((c : Thread nD τ).loc main_arg7) (ix1 e) = (⊤ : EReal)
  · obtain ⟨e, he⟩ := h
    exact .inr ⟨e, fun j _ => RowSpec.token_top _ _ _ _ _ e (hg e) he⟩
  · refine .inl fun j _ d => ?_
    by_cases hb : m ((c : Thread nD τ).loc main_arg7) (ix1 d) = (⊥ : EReal)
    · exact ⟨0, RowSpec.token_bot _ _ _ _ _ d hb⟩
    · exact RowSpec.token_real _ _ _ _ _ d (hg d) ⟨_, (EReal.coe_toReal (fun ht => h ⟨d, ht⟩) hb).symm⟩

/-- The first results are equal. -/
theorem cls_eq :
    ReferenceIdeal.Whole.clsOut (m ((c : Thread nD τ).loc main_arg0)) (m ((c : Thread nD τ).loc main_arg4)) (m ((c : Thread nD τ).loc main_arg5))
      (m ((c : Thread nD τ).loc main_arg8)) (m ((c : Thread nD τ).loc main_arg9)) = Arr.clsArr m c := by
  funext y
  obtain ⟨b, a, d, rfl⟩ : ∃ (b : Fin 32) (a : Fin 1) (d : Fin 768), y = ix3 b a d :=
    ⟨y 0, y 1, y 2, funext fun a => by fin_cases a <;> rfl⟩
  refine (ReferenceIdeal.Tok.cls_apply _ _ _ _ _ b a d).trans ?_
  exact congrArg (fun f => RowSpec.cls f _ _ _ _ d) (funext fun k => (Arr.feat_eq m c b.isLt (show 0 < 2048 by omega) k).symm)

/-- The second results are equal, where the mask is a run of ones and then zeros and the gain is real. -/
theorem reps_eq (hg : ∀ d : Fin 128, RowSpec.IsReal (m ((c : Thread nD τ).loc main_arg6) (ix1 d))) (n : ℕ → ℕ) (hn : ∀ b, n b ≤ 2046)
    (hm : ∀ (b : Fin 32) (s : ℕ) (h : s < 2046),
      m ((c : Thread nD τ).loc main_arg1) (ix2 b ⟨s + 1, by omega⟩) = if s < n b then 1#32 else 0#32) :
    ReferenceIdeal.Whole.repsOut (m ((c : Thread nD τ).loc main_arg0)) (m ((c : Thread nD τ).loc main_arg1)) (m ((c : Thread nD τ).loc main_arg2))
      (m ((c : Thread nD τ).loc main_arg3)) (m ((c : Thread nD τ).loc main_arg6)) (m ((c : Thread nD τ).loc main_arg7)) = Arr.repsArr m c n := by
  funext y
  obtain ⟨b, i, d, rfl⟩ : ∃ (b : Fin 32) (i : Fin 2046) (d : Fin 128), y = ix3 b i d :=
    ⟨y 0, y 1, y 2, funext fun a => by fin_cases a <;> rfl⟩
  refine (ReferenceIdeal.Out.out_apply _ _ b (fun j => Arr.tok m c b (j + 1)) (fun j hj d => ?_) (hn b) (hm b) i d).trans
    (Window.rows_eq _ (n b) i (tok_cases m c hg b (n b)) d)
  refine (ReferenceIdeal.Tok.rows_apply _ _ _ _ _ b ⟨j + 1, by omega⟩ d).trans ?_
  exact congrArg (fun f => RowSpec.token f _ _ _ _ d) (funext fun k => (Arr.feat_eq m c b.isLt (show j + 1 < 2048 by omega) k).symm)

end Cert.Equation

end
-- ==== Proof.lean ====
/-
  The proof of `Cert.Claim`: the frames of the three programs, that the idealized kernel keeps the kernel's effects, and that
  the idealized kernel and the idealized reference end with equal results.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Pre
public import proofs.«01_k».proof.Proof.Equation

@[expose] public section

noncomputable section

namespace Cert.Proof

open Idealize.ShloMosaic Idealize.SL.Sem

/-- The kernel runs from any memory and leaves its arguments as they were. -/
theorem frame_kernel : Cert.quiescent_Kernel := fun m g _ => Cert.Kernel.Gen.frame m g

/-- So does the idealized kernel. -/
theorem frame_ideal : Cert.quiescent_KernelIdeal := fun m g _ => Cert.KernelIdeal.Gen.frame m g

/-- So does the idealized kernel under the precondition. -/
theorem frame_ideal_pre : Cert.quiescent_KernelIdeal_pre_inputs_ok := fun m g _ => Cert.KernelIdeal.Gen.frame m g

/-- So does the idealized reference. -/
theorem frame_reference : Cert.quiescent_ReferenceIdeal := fun m g _ => Cert.ReferenceIdeal.Whole.frame m g

/-- So does the idealized reference under the precondition. -/
theorem frame_reference_pre : Cert.quiescent_ReferenceIdeal_pre_inputs_ok := fun m g _ => Cert.ReferenceIdeal.Whole.frame m g

/-- Under the precondition the idealized kernel and the idealized reference end with equal results. -/
theorem algebraic : Cert.algebraic_KernelIdeal_ReferenceIdeal_pre_inputs_ok := by
  intro m g m' g' hpre hagree
  have hruns := fun c => Cert.Pre_inputs_ok.Read.runs _ _ _ _ _ _ _ _ _ _ (hpre c)
  have hgain := fun c => Cert.Pre_inputs_ok.Read.gain _ _ _ _ _ _ _ _ _ _ (hpre c)
  choose n hn hm using hruns
  refine ⟨fun c => Cert.KernelIdeal.Arr.clsArr m c, fun c => Cert.KernelIdeal.Arr.repsArr m c (n c), ?_, ?_⟩
  · refine (θ_run Cert.KernelIdeal.defs _ _).mono (fun r h c => ?_) (Cert.KernelIdeal.Value.run_blocks m g)
    exact ⟨(h c).1.trans (Cert.KernelIdeal.Arr.cls_arr m c), (h c).2.1.trans (Cert.KernelIdeal.Arr.reps_arr m c (n c) (hn c) (hm c)), (h c).2.2⟩
  · refine (θ_run Cert.ReferenceIdeal.defs _ _).mono (fun r h c => ?_) (Cert.ReferenceIdeal.Whole.run m' g')
    obtain ⟨e0, e1, e2, e3, e4, e5, e6, e7, e8, e9⟩ := hagree c
    refine ⟨(h c).1.trans ?_, (h c).2.1.trans ?_, (h c).2.2⟩
    · rw [e0, e4, e5, e8, e9]
      exact Cert.Equation.cls_eq m c
    · rw [e0, e1, e2, e3, e6, e7]
      exact Cert.Equation.reps_eq m c (hgain c) (n c) (hn c) (hm c)

/-- Everything that the certificate claims. -/
theorem claim : Cert.Claim :=
  ⟨Cert.Kernel.Gen.facts, Cert.KernelIdeal.Gen.facts, Cert.ReferenceIdeal.Gen.facts, Cert.Pre_inputs_ok.Gen.facts,
    frame_kernel, frame_ideal, frame_ideal_pre, frame_reference, frame_reference_pre, trivial, algebraic⟩

end Cert.Proof

end
